-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.UnclippedIdeal.nD).tc : Thread Cert.UnclippedIdeal.nD Cert.UnclippedIdeal.τ).loc Cert.UnclippedIdeal.main_arg1))
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v0) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
-- ==== Kernel.lean ====
abbrev S4096x512 : Shape := ⟨2, ![4096, 512]⟩
abbrev S512x8192 : Shape := ⟨2, ![512, 8192]⟩
abbrev S1 : Shape := ⟨1, ![1]⟩
abbrev S7x512x2688 : Shape := ⟨3, ![7, 512, 2688]⟩
abbrev S7x512x2816 : Shape := ⟨3, ![7, 512, 2816]⟩
abbrev S7x512x512 : Shape := ⟨3, ![7, 512, 512]⟩
abbrev S21 : Shape := ⟨1, ![21]⟩
abbrev S7 : Shape := ⟨1, ![7]⟩
abbrev S_ : Shape := ⟨0, ![]⟩
abbrev S1x512x2688 : Shape := ⟨3, ![1, 512, 2688]⟩
abbrev S512x2688 : Shape := ⟨2, ![512, 2688]⟩
abbrev S1x512x2816 : Shape := ⟨3, ![1, 512, 2816]⟩
abbrev S512x2816 : Shape := ⟨2, ![512, 2816]⟩
abbrev S1x512x512 : Shape := ⟨3, ![1, 512, 512]⟩
abbrev S512x512 : Shape := ⟨2, ![512, 512]⟩
abbrev S512x1024 : Shape := ⟨2, ![512, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .fp8e4m3⟩
  | .hbm, ⟨1, _⟩ => ⟨S512x8192, .fp8e4m3⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e4m3⟩
  | .local _ .vmem, ⟨1, _⟩ => ⟨S512x8192, .fp8e4m3⟩
  | .local _ .vmem, ⟨2, _⟩ => ⟨S512x8192, .f32⟩
  | .local _ .vmem, ⟨3, _⟩ => ⟨S7x512x2688, .fp8e4m3⟩
  | .local _ .vmem, ⟨4, _⟩ => ⟨S7x512x2688, .fp8e4m3⟩
  | .local _ .vmem, ⟨5, _⟩ => ⟨S7x512x2816, .fp8e4m3⟩
  | .local _ .vmem, ⟨6, _⟩ => ⟨S7x512x512, .fp8e4m3⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 32 := Scalar.xori v2 c1_i32_1
  let c1_i32_3 : BitVec 32 := 1#32
  let v8 : BitVec 32 := Scalar.muli v7 c1_i32_3
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v10 : BitVec 32 := Scalar.xori v2 c3_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_9 : BitVec 32 := 1#32
  let v14 : BitVec 32 := Scalar.muli v13 c1_i32_9
  let v15 : BitVec 32 := Scalar.addi c0_i32_10 v14
  v15.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v16 : BitVec 32 := Scalar.xori v2 c4_i32_11
  let c1_i32_13 : BitVec 32 := 1#32
  let v17 : BitVec 32 := Scalar.muli v16 c1_i32_13
  let v18 : BitVec 32 := Scalar.addi c0_i32_14 v17
  v18.toNat
def k0_dev5 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 32 := Scalar.xori v2 c5_i32
  let c1_i32_16 : BitVec 32 := 1#32
  let v20 : BitVec 32 := Scalar.muli v19 c1_i32_16
  let v21 : BitVec 32 := Scalar.addi c0_i32_17 v20
  v21.toNat
def k0_dev6 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev7 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v25 : BitVec 32 := Scalar.xori v2 c6_i32
  let c1_i32_22 : BitVec 32 := 1#32
  let v26 : BitVec 32 := Scalar.muli v25 c1_i32_22
  let v27 : BitVec 32 := Scalar.addi c0_i32_23 v26
  v27.toNat
def k0_dev8 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_28 : BitVec 32 := 1#32
  let v28 : BitVec 32 := Scalar.muli v3 c1_i32_28
  let v29 : BitVec 32 := Scalar.addi c0_i32_29 v28
  v29.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_37 : BitVec 32 := 1#32
  let v37 : BitVec 32 := Scalar.muli v4 c1_i32_37
  let v38 : BitVec 32 := Scalar.addi c0_i32_38 v37
  v38.toNat
def k0_dev10 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_44 : BitVec 32 := 1#32
  let v46 : BitVec 32 := Scalar.muli v5 c1_i32_44
  let v47 : BitVec 32 := Scalar.addi c0_i32_45 v46
  v47.toNat
def k0_off1 (d0 : Dev nD) (c1_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.xori v2 c1_i32_49
  let c512_i32 : BitVec 32 := 512#32
  let v56 : BitVec 32 := Scalar.muli v55 c512_i32
  let c0_i32_57 : BitVec 32 := 0#32
  ![v56.toNat, 0]
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v55 : BitVec 32 := Scalar.xori v2 c1_i32_49
  let c1_i32_53 : BitVec 32 := 1#32
  let v57 : BitVec 32 := Scalar.muli v55 c1_i32_53
  let v58 : BitVec 32 := Scalar.addi c0_i32_54 v57
  v58.toNat
def k0_dev12 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_58 : BitVec 32 := 3#32
  let v66 : BitVec 32 := Scalar.xori v2 c3_i32_58
  let c1_i32_63 : BitVec 32 := 1#32
  let v68 : BitVec 32 := Scalar.muli v66 c1_i32_63
  let v69 : BitVec 32 := Scalar.addi c0_i32_64 v68
  v69.toNat
def k0_dev13 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_68 : BitVec 32 := 2#32
  let v77 : BitVec 32 := Scalar.xori v2 c2_i32_68
  let c1_i32_73 : BitVec 32 := 1#32
  let v79 : BitVec 32 := Scalar.muli v77 c1_i32_73
  let v80 : BitVec 32 := Scalar.addi c0_i32_74 v79
  v80.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_78 : BitVec 32 := 4#32
  let v88 : BitVec 32 := Scalar.xori v2 c4_i32_78
  let c1_i32_83 : BitVec 32 := 1#32
  let v90 : BitVec 32 := Scalar.muli v88 c1_i32_83
  let v91 : BitVec 32 := Scalar.addi c0_i32_84 v90
  v91.toNat
def k0_dev15 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_88 : BitVec 32 := 5#32
  let v99 : BitVec 32 := Scalar.xori v2 c5_i32_88
  let c1_i32_93 : BitVec 32 := 1#32
  let v101 : BitVec 32 := Scalar.muli v99 c1_i32_93
  let v102 : BitVec 32 := Scalar.addi c0_i32_94 v101
  v102.toNat
def k0_dev16 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_98 : BitVec 32 := 7#32
  let v110 : BitVec 32 := Scalar.xori v2 c7_i32_98
  let c1_i32_103 : BitVec 32 := 1#32
  let v112 : BitVec 32 := Scalar.muli v110 c1_i32_103
  let v113 : BitVec 32 := Scalar.addi c0_i32_104 v112
  v113.toNat
def k0_dev17 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v121 : BitVec 32 := Scalar.xori v2 c6_i32_108
  let c1_i32_113 : BitVec 32 := 1#32
  let v123 : BitVec 32 := Scalar.muli v121 c1_i32_113
  let v124 : BitVec 32 := Scalar.addi c0_i32_114 v123
  v124.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_118 : BitVec 32 := 512#32
  let v132 : BitVec 32 := Scalar.muli v2 c512_i32_118
  let v133 : Index := Scalar.indexCast v132
  let c0 : Index := 0#32
  ![v133.toNat, 0]
def k0_dev18 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_143 : BitVec 32 := 1#32
  let v155 : BitVec 32 := Scalar.muli v4 c1_i32_143
  let v156 : BitVec 32 := Scalar.addi c0_i32_144 v155
  v156.toNat
def k0_dev19 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_153 : BitVec 32 := 1#32
  let v164 : BitVec 32 := Scalar.muli v4 c1_i32_153
  let v165 : BitVec 32 := Scalar.addi c0_i32_154 v164
  v165.toNat
def k0_dev20 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_192 : BitVec 32 := 1#32
  let v198 : BitVec 32 := Scalar.muli v5 c1_i32_192
  let v199 : BitVec 32 := Scalar.addi c0_i32_193 v198
  v199.toNat
def k0_dev21 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_201 : BitVec 32 := 1#32
  let v207 : BitVec 32 := Scalar.muli v5 c1_i32_201
  let v208 : BitVec 32 := Scalar.addi c0_i32_202 v207
  v208.toNat
def k0_dev22 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_238 : BitVec 32 := 1#32
  let v241 : BitVec 32 := Scalar.muli v3 c1_i32_238
  let v242 : BitVec 32 := Scalar.addi c0_i32_239 v241
  v242.toNat
def k0_dev23 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_247 : BitVec 32 := 1#32
  let v250 : BitVec 32 := Scalar.muli v3 c1_i32_247
  let v251 : BitVec 32 := Scalar.addi c0_i32_248 v250
  v251.toNat
def k0_dev24 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_295 : BitVec 32 := 1#32
  let v292 : BitVec 32 := Scalar.muli v5 c1_i32_295
  let v293 : BitVec 32 := Scalar.addi c0_i32_296 v292
  v293.toNat
def k0_dev25 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_305 : BitVec 32 := 1#32
  let v301 : BitVec 32 := Scalar.muli v5 c1_i32_305
  let v302 : BitVec 32 := Scalar.addi c0_i32_306 v301
  v302.toNat
def k0_dev26 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_315 : BitVec 32 := 1#32
  let v311 : BitVec 32 := Scalar.muli v5 c1_i32_315
  let v312 : BitVec 32 := Scalar.addi c0_i32_316 v311
  v312.toNat
def k0_dev27 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_325 : BitVec 32 := 1#32
  let v321 : BitVec 32 := Scalar.muli v5 c1_i32_325
  let v322 : BitVec 32 := Scalar.addi c0_i32_326 v321
  v322.toNat
def k0_dev28 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_383 : BitVec 32 := 1#32
  let v372 : BitVec 32 := Scalar.muli v3 c1_i32_383
  let v373 : BitVec 32 := Scalar.addi c0_i32_384 v372
  v373.toNat
def k0_dev29 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_392 : BitVec 32 := 1#32
  let v381 : BitVec 32 := Scalar.muli v3 c1_i32_392
  let v382 : BitVec 32 := Scalar.addi c0_i32_393 v381
  v382.toNat
def k0_dev30 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_401 : BitVec 32 := 1#32
  let v391 : BitVec 32 := Scalar.muli v3 c1_i32_401
  let v392 : BitVec 32 := Scalar.addi c0_i32_402 v391
  v392.toNat
def k0_dev31 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_410 : BitVec 32 := 1#32
  let v401 : BitVec 32 := Scalar.muli v3 c1_i32_410
  let v402 : BitVec 32 := Scalar.addi c0_i32_411 v401
  v402.toNat
def k0_dev32 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_468 : BitVec 32 := 1#32
  let v452 : BitVec 32 := Scalar.muli v4 c1_i32_468
  let v453 : BitVec 32 := Scalar.addi c0_i32_469 v452
  v453.toNat
def k0_dev33 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_477 : BitVec 32 := 1#32
  let v461 : BitVec 32 := Scalar.muli v4 c1_i32_477
  let v462 : BitVec 32 := Scalar.addi c0_i32_478 v461
  v462.toNat
def k0_dev34 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_486 : BitVec 32 := 1#32
  let v471 : BitVec 32 := Scalar.muli v4 c1_i32_486
  let v472 : BitVec 32 := Scalar.addi c0_i32_487 v471
  v472.toNat
def k0_dev35 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_495 : BitVec 32 := 1#32
  let v481 : BitVec 32 := Scalar.muli v4 c1_i32_495
  let v482 : BitVec 32 := Scalar.addi c0_i32_496 v481
  v482.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== UnclippedIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ideal.Proto.lean ====
/-
  The exchange of `v06` as a protocol: eight devices, three column parts of the weight block that travel a cube along its
  three axes, and the row blocks of `x` that travel directly.

  * `px e c` is the device whose number is `c`'s with the bits of `e` flipped; every copy and every signal names one.
  * The 28 transfers a device makes are numbered `i : Fin 28`: 0..20 are the copies of the weight parts, under the
    semaphores' own index, 21..27 the copies of the row blocks. `tm i` is the flip to the receiver, `sl i` the landing
    slot, `src i` where the bytes come from, `stp i` the step of the gather.
  * A device's barrier cell has seven duties, one for each other device: the payer hands over those of its landing slots
    that the waiter will write. A receive cell's one duty hands over the landing slot with its contents, a send cell's the
    share of the source that the copy read.
-/
module

public import proofs.«01_k».proof.Proof.Gen.KernelIdeal.Frame
public import proofs.«01_k».proof.Proof.Gen.KernelIdeal.Skeleton
public import Idealize.ShloMosaic.Lib.ValueLayout
public import Idealize.ShloMosaic.Lib.Ring.FamCut

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline's part and the exchange's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

/-- The device whose number is `c`'s with the bits of `e` flipped. -/
def px (e : Fin 8) (c : Dev nD) : Dev nD := (show Fin 8 from c) ^^^ e

theorem px_px : ∀ (e : Fin 8) (c : Dev nD), px e (px e c) = c := by decide
theorem px_ne : ∀ (e : Fin 8) (c : Dev nD), e ≠ 0 → px e c ≠ c := by decide

/-- The cube's coordinates as flips of the device number: mask `d` of the three axes flips `dm d`. -/
def dm : Fin 8 → Fin 8 := ![0, 1, 3, 2, 4, 5, 7, 6]

theorem dev1_eq : ∀ c : Dev nD, (⟨k0_dev1 c, k0_dev1_lt c⟩ : Dev nD) = px 1 c := by decide +kernel
theorem dev2_eq : ∀ c : Dev nD, (⟨k0_dev2 c, k0_dev2_lt c⟩ : Dev nD) = px 3 c := by decide +kernel
theorem dev3_eq : ∀ c : Dev nD, (⟨k0_dev3 c, k0_dev3_lt c⟩ : Dev nD) = px 2 c := by decide +kernel
theorem dev4_eq : ∀ c : Dev nD, (⟨k0_dev4 c, k0_dev4_lt c⟩ : Dev nD) = px 4 c := by decide +kernel
theorem dev5_eq : ∀ c : Dev nD, (⟨k0_dev5 c, k0_dev5_lt c⟩ : Dev nD) = px 5 c := by decide +kernel
theorem dev6_eq : ∀ c : Dev nD, (⟨k0_dev6 c, k0_dev6_lt c⟩ : Dev nD) = px 7 c := by decide +kernel
theorem dev7_eq : ∀ c : Dev nD, (⟨k0_dev7 c, k0_dev7_lt c⟩ : Dev nD) = px 6 c := by decide +kernel
theorem dev8_eq : ∀ c : Dev nD, (⟨k0_dev8 c, k0_dev8_lt c⟩ : Dev nD) = px 1 c := by decide +kernel
theorem dev9_eq : ∀ c : Dev nD, (⟨k0_dev9 c, k0_dev9_lt c⟩ : Dev nD) = px 3 c := by decide +kernel
theorem dev10_eq : ∀ c : Dev nD, (⟨k0_dev10 c, k0_dev10_lt c⟩ : Dev nD) = px 4 c := by decide +kernel
theorem dev11_eq : ∀ c : Dev nD, (⟨k0_dev11 c, k0_dev11_lt c⟩ : Dev nD) = px 1 c := by decide +kernel
theorem dev12_eq : ∀ c : Dev nD, (⟨k0_dev12 c, k0_dev12_lt c⟩ : Dev nD) = px 3 c := by decide +kernel
theorem dev13_eq : ∀ c : Dev nD, (⟨k0_dev13 c, k0_dev13_lt c⟩ : Dev nD) = px 2 c := by decide +kernel
theorem dev14_eq : ∀ c : Dev nD, (⟨k0_dev14 c, k0_dev14_lt c⟩ : Dev nD) = px 4 c := by decide +kernel
theorem dev15_eq : ∀ c : Dev nD, (⟨k0_dev15 c, k0_dev15_lt c⟩ : Dev nD) = px 5 c := by decide +kernel
theorem dev16_eq : ∀ c : Dev nD, (⟨k0_dev16 c, k0_dev16_lt c⟩ : Dev nD) = px 7 c := by decide +kernel
theorem dev17_eq : ∀ c : Dev nD, (⟨k0_dev17 c, k0_dev17_lt c⟩ : Dev nD) = px 6 c := by decide +kernel
theorem dev18_eq : ∀ c : Dev nD, (⟨k0_dev18 c, k0_dev18_lt c⟩ : Dev nD) = px 3 c := by decide +kernel
theorem dev19_eq : ∀ c : Dev nD, (⟨k0_dev19 c, k0_dev19_lt c⟩ : Dev nD) = px 3 c := by decide +kernel
theorem dev20_eq : ∀ c : Dev nD, (⟨k0_dev20 c, k0_dev20_lt c⟩ : Dev nD) = px 4 c := by decide +kernel
theorem dev21_eq : ∀ c : Dev nD, (⟨k0_dev21 c, k0_dev21_lt c⟩ : Dev nD) = px 4 c := by decide +kernel
theorem dev22_eq : ∀ c : Dev nD, (⟨k0_dev22 c, k0_dev22_lt c⟩ : Dev nD) = px 1 c := by decide +kernel
theorem dev23_eq : ∀ c : Dev nD, (⟨k0_dev23 c, k0_dev23_lt c⟩ : Dev nD) = px 1 c := by decide +kernel
theorem dev24_eq : ∀ c : Dev nD, (⟨k0_dev24 c, k0_dev24_lt c⟩ : Dev nD) = px 4 c := by decide +kernel
theorem dev25_eq : ∀ c : Dev nD, (⟨k0_dev25 c, k0_dev25_lt c⟩ : Dev nD) = px 4 c := by decide +kernel
theorem dev26_eq : ∀ c : Dev nD, (⟨k0_dev26 c, k0_dev26_lt c⟩ : Dev nD) = px 4 c := by decide +kernel
theorem dev27_eq : ∀ c : Dev nD, (⟨k0_dev27 c, k0_dev27_lt c⟩ : Dev nD) = px 4 c := by decide +kernel
theorem dev28_eq : ∀ c : Dev nD, (⟨k0_dev28 c, k0_dev28_lt c⟩ : Dev nD) = px 1 c := by decide +kernel
theorem dev29_eq : ∀ c : Dev nD, (⟨k0_dev29 c, k0_dev29_lt c⟩ : Dev nD) = px 1 c := by decide +kernel
theorem dev30_eq : ∀ c : Dev nD, (⟨k0_dev30 c, k0_dev30_lt c⟩ : Dev nD) = px 1 c := by decide +kernel
theorem dev31_eq : ∀ c : Dev nD, (⟨k0_dev31 c, k0_dev31_lt c⟩ : Dev nD) = px 1 c := by decide +kernel
theorem dev32_eq : ∀ c : Dev nD, (⟨k0_dev32 c, k0_dev32_lt c⟩ : Dev nD) = px 3 c := by decide +kernel
theorem dev33_eq : ∀ c : Dev nD, (⟨k0_dev33 c, k0_dev33_lt c⟩ : Dev nD) = px 3 c := by decide +kernel
theorem dev34_eq : ∀ c : Dev nD, (⟨k0_dev34 c, k0_dev34_lt c⟩ : Dev nD) = px 3 c := by decide +kernel
theorem dev35_eq : ∀ c : Dev nD, (⟨k0_dev35 c, k0_dev35_lt c⟩ : Dev nD) = px 3 c := by decide +kernel

/-! ## The transfers' tables -/

/-- Where a transfer's bytes come from: the device's own columns, a slot of the part's buffer, or a row block of `x`. -/
inductive Src where
  | col
  | slot (j : Fin 7)
  | row (r : Fin 7)
deriving DecidableEq

/-- Which buffer family a transfer is of: the weight parts 0, 1, 2, or the row blocks 3. -/
def part : Fin 28 → Fin 4 := ![0, 0, 0, 0, 0, 0, 0, 1, 1, 1, 1, 1, 1, 1, 2, 2, 2, 2, 2, 2, 2, 3, 3, 3, 3, 3, 3, 3]
/-- The flip from sender to receiver. -/
def tm : Fin 28 → Fin 8 := ![1, 3, 3, 4, 4, 4, 4, 3, 4, 4, 1, 1, 1, 1, 4, 1, 1, 3, 3, 3, 3, 1, 3, 2, 4, 5, 7, 6]
/-- The landing slot. -/
def sl : Fin 28 → Fin 7 := ![0, 1, 2, 3, 4, 5, 6, 1, 3, 5, 0, 2, 4, 6, 3, 0, 4, 1, 5, 2, 6, 0, 1, 2, 3, 4, 5, 6]
/-- The source. -/
def src : Fin 28 → Src := ![.col, .col, .slot 0, .col, .slot 0, .slot 1, .slot 2, .col, .col, .slot 1, .col, .slot 1, .slot 3, .slot 5,
  .col, .col, .slot 3, .col, .slot 3, .slot 0, .slot 4, .row 0, .row 2, .row 1, .row 3, .row 4, .row 6, .row 5]
/-- The gather's step, as a level: what is sent later is received later. -/
def stp : Fin 28 → ℕ := ![0, 1, 1, 2, 2, 2, 2, 0, 1, 1, 2, 2, 2, 2, 0, 1, 1, 2, 2, 2, 2, 0, 0, 0, 0, 0, 0, 0]
/-- How many transfers out of the same source were issued before. -/
def shr : Fin 28 → ℕ := ![0, 1, 0, 2, 1, 0, 0, 0, 1, 0, 2, 1, 0, 0, 0, 1, 0, 2, 1, 0, 0, 0, 0, 0, 0, 0, 0, 0]

/-- What is kept of a source after `n` copies took their shares, and the share the next copy takes. -/
def kp : ℕ → PosShare TreeShare
  | 0 => fullShare
  | n + 1 => (kp n).right
def sh (n : ℕ) : PosShare TreeShare := (kp n).left

/-! ## Memrefs -/

theorem slot_inb0 : ∀ j : Fin 7, ∀ a, (![j.val, 0, 0] : Fin 3 → ℕ) a + S1x512x2688.size a ≤ S7x512x2688.size a := by decide
abbrev colM0 : Memref sig .tc .vmem S512x2688 .fp8e4m3 :=
  (Memref.whole cc0_stg1_0).slice (Rect.unit (s := S512x8192) ![0, 0] S512x2688.size inb_S512x8192_S512x2688_0_0) (fun _ => rfl)
abbrev slotR0 (j : Fin 7) : Rect S7x512x2688 := Rect.unit (s := S7x512x2688) ![j.val, 0, 0] S1x512x2688.size (slot_inb0 j)
abbrev slotM0 (j : Fin 7) : Memref sig .tc .vmem S512x2688 .fp8e4m3 :=
  ((Memref.whole cc0_scratch0).slice (slotR0 j) (fun _ => rfl)).squeeze S512x2688 squeezes_S1x512x2688_S512x2688

theorem slot_inb1 : ∀ j : Fin 7, ∀ a, (![j.val, 0, 0] : Fin 3 → ℕ) a + S1x512x2688.size a ≤ S7x512x2688.size a := by decide
abbrev colM1 : Memref sig .tc .vmem S512x2688 .fp8e4m3 :=
  (Memref.whole cc0_stg1_0).slice (Rect.unit (s := S512x8192) ![0, 2688] S512x2688.size inb_S512x8192_S512x2688_0_2688) (fun _ => rfl)
abbrev slotR1 (j : Fin 7) : Rect S7x512x2688 := Rect.unit (s := S7x512x2688) ![j.val, 0, 0] S1x512x2688.size (slot_inb1 j)
abbrev slotM1 (j : Fin 7) : Memref sig .tc .vmem S512x2688 .fp8e4m3 :=
  ((Memref.whole cc0_scratch1).slice (slotR1 j) (fun _ => rfl)).squeeze S512x2688 squeezes_S1x512x2688_S512x2688

theorem slot_inb2 : ∀ j : Fin 7, ∀ a, (![j.val, 0, 0] : Fin 3 → ℕ) a + S1x512x2816.size a ≤ S7x512x2816.size a := by decide
abbrev colM2 : Memref sig .tc .vmem S512x2816 .fp8e4m3 :=
  (Memref.whole cc0_stg1_0).slice (Rect.unit (s := S512x8192) ![0, 5376] S512x2816.size inb_S512x8192_S512x2816_0_5376) (fun _ => rfl)
abbrev slotR2 (j : Fin 7) : Rect S7x512x2816 := Rect.unit (s := S7x512x2816) ![j.val, 0, 0] S1x512x2816.size (slot_inb2 j)
abbrev slotM2 (j : Fin 7) : Memref sig .tc .vmem S512x2816 .fp8e4m3 :=
  ((Memref.whole cc0_scratch2).slice (slotR2 j) (fun _ => rfl)).squeeze S512x2816 squeezes_S1x512x2816_S512x2816

theorem slot_inb3 : ∀ j : Fin 7, ∀ a, (![j.val, 0, 0] : Fin 3 → ℕ) a + S1x512x512.size a ≤ S7x512x512.size a := by decide
abbrev slotR3 (j : Fin 7) : Rect S7x512x512 := Rect.unit (s := S7x512x512) ![j.val, 0, 0] S1x512x512.size (slot_inb3 j)
abbrev slotM3 (j : Fin 7) : Memref sig .tc .vmem S512x512 .fp8e4m3 :=
  ((Memref.whole cc0_scratch3).slice (slotR3 j) (fun _ => rfl)).squeeze S512x512 squeezes_S1x512x512_S512x512
/-- The row block of `x` for the device that `r + 1` flips to. -/
abbrev rowM (c : Dev nD) (r : Fin 7) : Memref sig .tc .vmem S512x512 .fp8e4m3 :=
  (Memref.whole cc0_stg0_0).slice (Rect.unit (s := S4096x512) (k0_off1 c (BitVec.ofNat 32 (1 + r.val))) S512x512.size (k0_off1_inb c r)) (fun _ => rfl)
/-- The device's own row block of `x`. -/
abbrev ownM (c : Dev nD) : Memref sig .tc .vmem S512x512 .fp8e4m3 :=
  (Memref.whole cc0_stg0_0).slice (Rect.unit (s := S4096x512) (k0_off2 c) S512x512.size (k0_off2_inb c)) (fun _ => rfl)

/-! ## Contents -/

variable (X : Dev nD → S4096x512.Idx → Elt F .fp8e4m3) (Wt : Dev nD → S512x8192.Idx → Elt F .fp8e4m3)

/-- The device whose block lands in slot `j` of `c`. -/
def own (c : Dev nD) (j : Fin 7) : Dev nD := px (dm j.succ) c

/-- Part 0's buffer once every copy has landed: slot `j` holds the columns of `own c j`'s block. -/
def wfin0 (c : Dev nD) : S7x512x2688.Idx → Elt F .fp8e4m3 := fun i => Wt (own c (i 0)) (ix2 (i 1) ⟨0 + (i 2).val, by have := (i 2).isLt; have h : S7x512x2688.size 2 = 2688 := rfl; omega⟩)
/-- Part 1's buffer once every copy has landed: slot `j` holds the columns of `own c j`'s block. -/
def wfin1 (c : Dev nD) : S7x512x2688.Idx → Elt F .fp8e4m3 := fun i => Wt (own c (i 0)) (ix2 (i 1) ⟨2688 + (i 2).val, by have := (i 2).isLt; have h : S7x512x2688.size 2 = 2688 := rfl; omega⟩)
/-- Part 2's buffer once every copy has landed: slot `j` holds the columns of `own c j`'s block. -/
def wfin2 (c : Dev nD) : S7x512x2816.Idx → Elt F .fp8e4m3 := fun i => Wt (own c (i 0)) (ix2 (i 1) ⟨5376 + (i 2).val, by have := (i 2).isLt; have h : S7x512x2816.size 2 = 2816 := rfl; omega⟩)
/-- The row blocks' buffer once every copy has landed: slot `j` holds `own c j`'s rows for `c`. -/
def xfin (c : Dev nD) : S7x512x512.Idx → Elt F .fp8e4m3 := fun i => X (own c (i 0)) (ix2 ⟨512 * c.val + (i 1).val, by have := (i 1).isLt; have h : S7x512x512.size 1 = 512 := rfl; have := c.isLt; have h' : nD = 8 := rfl; omega⟩ (i 2))

def colP0 (c : Dev nD) (q : PosShare TreeShare) : sProp 𝕄 := colM0.view.loc (c : Thread nD τ) ↦[colM0.view.set]{q} Wt c
def slotF0 (c : Dev nD) (j : Fin 7) (q : PosShare TreeShare) (f : S7x512x2688.Idx → Elt F .fp8e4m3) : sProp 𝕄 :=
  (slotM0 j).view.loc (c : Thread nD τ) ↦[(slotM0 j).view.set]{q} f
def slotP0 (c : Dev nD) (j : Fin 7) (q : PosShare TreeShare) : sProp 𝕄 := slotF0 c j q (wfin0 Wt c)
def freeP0 (c : Dev nD) (j : Fin 7) : sProp 𝕄 := iprop(∃ f, slotF0 (F := F) c j fullShare f)
def colP1 (c : Dev nD) (q : PosShare TreeShare) : sProp 𝕄 := colM1.view.loc (c : Thread nD τ) ↦[colM1.view.set]{q} Wt c
def slotF1 (c : Dev nD) (j : Fin 7) (q : PosShare TreeShare) (f : S7x512x2688.Idx → Elt F .fp8e4m3) : sProp 𝕄 :=
  (slotM1 j).view.loc (c : Thread nD τ) ↦[(slotM1 j).view.set]{q} f
def slotP1 (c : Dev nD) (j : Fin 7) (q : PosShare TreeShare) : sProp 𝕄 := slotF1 c j q (wfin1 Wt c)
def freeP1 (c : Dev nD) (j : Fin 7) : sProp 𝕄 := iprop(∃ f, slotF1 (F := F) c j fullShare f)
def colP2 (c : Dev nD) (q : PosShare TreeShare) : sProp 𝕄 := colM2.view.loc (c : Thread nD τ) ↦[colM2.view.set]{q} Wt c
def slotF2 (c : Dev nD) (j : Fin 7) (q : PosShare TreeShare) (f : S7x512x2816.Idx → Elt F .fp8e4m3) : sProp 𝕄 :=
  (slotM2 j).view.loc (c : Thread nD τ) ↦[(slotM2 j).view.set]{q} f
def slotP2 (c : Dev nD) (j : Fin 7) (q : PosShare TreeShare) : sProp 𝕄 := slotF2 c j q (wfin2 Wt c)
def freeP2 (c : Dev nD) (j : Fin 7) : sProp 𝕄 := iprop(∃ f, slotF2 (F := F) c j fullShare f)
def slotF3 (c : Dev nD) (j : Fin 7) (q : PosShare TreeShare) (f : S7x512x512.Idx → Elt F .fp8e4m3) : sProp 𝕄 :=
  (slotM3 j).view.loc (c : Thread nD τ) ↦[(slotM3 j).view.set]{q} f
def slotP3 (c : Dev nD) (j : Fin 7) (q : PosShare TreeShare) : sProp 𝕄 := slotF3 c j q (xfin X c)
def freeP3 (c : Dev nD) (j : Fin 7) : sProp 𝕄 := iprop(∃ f, slotF3 (F := F) c j fullShare f)
def rowP (c : Dev nD) (r : Fin 7) (q : PosShare TreeShare) : sProp 𝕄 := (rowM c r).view.loc (c : Thread nD τ) ↦[(rowM c r).view.set]{q} X c
def ownP (c : Dev nD) (q : PosShare TreeShare) : sProp 𝕄 := (ownM c).view.loc (c : Thread nD τ) ↦[(ownM c).view.set]{q} X c

/-- The landing slot of transfer `i` on device `c`, at any contents. -/
def freeP (c : Dev nD) (i : Fin 28) : sProp 𝕄 :=
  match part i with
  | 0 => freeP0 c (sl i) | 1 => freeP1 c (sl i) | 2 => freeP2 c (sl i) | 3 => freeP3 c (sl i)

/-- The landing slot of transfer `i` on device `c`, landed. -/
def recvP (c : Dev nD) (i : Fin 28) : sProp 𝕄 :=
  match part i with
  | 0 => slotP0 Wt c (sl i) fullShare | 1 => slotP1 Wt c (sl i) fullShare | 2 => slotP2 Wt c (sl i) fullShare | 3 => slotP3 X c (sl i) fullShare

def srcAt (p : Fin 4) (s : Src) (c : Dev nD) (q : PosShare TreeShare) : sProp 𝕄 :=
  match p, s with
  | 0, .col => colP0 Wt c q | 1, .col => colP1 Wt c q | 2, .col => colP2 Wt c q
  | 0, .slot j => slotP0 Wt c j q | 1, .slot j => slotP1 Wt c j q | 2, .slot j => slotP2 Wt c j q
  | 3, .row r => rowP X c r q
  | _, _ => iprop(emp)

/-- The share of its source that transfer `i` reads. -/
def srcP (c : Dev nD) (i : Fin 28) : sProp 𝕄 := srcAt X Wt (part i) (src i) c (sh (shr i))

/-! ## Cells -/

abbrev barS : Sem sig := (SemArray.scalar (sig.barrier 0 rfl) : Sems sig S_).sem
/-- The DMA semaphores of transfer `i`: the sender's and the receiver's. -/
def dsend (i : Fin 28) : DmaSem sig := ⟨if i.val < 21 then 5 + i.val else 26 + i.val, by have h : sig.nDmaSem = 61 := rfl; have := i.isLt; split <;> omega⟩
def drecv (i : Fin 28) : DmaSem sig := ⟨if i.val < 21 then 26 + i.val else 33 + i.val, by have h : sig.nDmaSem = 61 := rfl; have := i.isLt; split <;> omega⟩

abbrev barCell (c : Dev nD) : GSem nD τ sig := ((c : Thread nD τ), .reg barS)
abbrev sendCell (c : Dev nD) (i : Fin 28) : GSem nD τ sig := ((c : Thread nD τ), .dma (dsend i))
abbrev recvCell (c : Dev nD) (i : Fin 28) : GSem nD τ sig := ((c : Thread nD τ), .dma (drecv i))

/-- Which transfer a DMA semaphore serves, and on which side (`true`: the receiver's). -/
def kind (q : DmaSem sig) : Option (Bool × Fin 28) :=
  if h : q.val < 5 then none
  else if h : q.val < 26 then some (false, ⟨q.val - 5, by omega⟩)
  else if h : q.val < 47 then some (true, ⟨q.val - 26, by omega⟩)
  else if h : q.val < 54 then some (false, ⟨q.val - 26, by omega⟩)
  else some (true, ⟨q.val - 33, by have := q.isLt; have h' : sig.nDmaSem = 61 := rfl; omega⟩)

theorem kind_send : ∀ i, kind (dsend i) = some (false, i) := by decide +kernel
theorem kind_recv : ∀ i, kind (drecv i) = some (true, i) := by decide +kernel

/-- The unit a transfer of family `p` credits. -/
def amtP (p : Fin 4) : ℕ :=
  match p with
  | 0 => (slotM0 0).view.dmaCredit | 1 => (slotM1 0).view.dmaCredit | 2 => (slotM2 0).view.dmaCredit | 3 => (slotM3 0).view.dmaCredit
def amt (i : Fin 28) : ℕ := amtP (part i)

theorem amtP_pos (p : Fin 4) : 0 < amtP p := by
  fin_cases p <;> exact View.dmaCredit_pos _ (by decide)

/-! ## The schedule -/

/-- What the payer with flip `e` hands to `c` through `c`'s barrier cell: the payer's landing slots that `c` writes. -/
def barP (c : Dev nD) (e : Fin 8) : sProp 𝕄 := bigSep (Finset.univ.filter fun i => tm i = e) fun i => freeP (px e c) i

def Rd : Rounds.Schedule (GSem nD τ sig) (Fin 8) 𝕄 where
  duties g r := if r = 0 ∧ g.1.2 = .tc then (match g.2 with
    | .reg _ => Finset.univ.erase 0
    | .dma q => match kind q with | none => ∅ | some _ => {0}) else ∅
  unitless _ := False
  amount g _ _ := match g.2 with
    | .reg _ => 1
    | .dma q => match kind q with | none => 1 | some (_, i) => amt i
  payload g _ d := match g.2 with
    | .reg _ => barP g.1.1 d
    | .dma q => match kind q with | none => iprop(emp) | some (false, i) => srcP X Wt g.1.1 i | some (true, i) => recvP X Wt g.1.1 i
  amount_pos g _ _ _ := by
    split
    · exact Nat.one_pos
    · split
      · exact Nat.one_pos
      · exact amtP_pos _

instance freeP_storable (c : Dev nD) (i : Fin 28) : BI.Storable (upEmb : UEmb _ 𝕄) (freeP (F := F) c i) := by
  unfold freeP freeP0 freeP1 freeP2 freeP3 slotF0 slotF1 slotF2 slotF3; split <;> infer_instance
instance recvP_storable (c : Dev nD) (i : Fin 28) : BI.Storable (upEmb : UEmb _ 𝕄) (recvP X Wt c i) := by
  unfold recvP slotP0 slotP1 slotP2 slotP3 slotF0 slotF1 slotF2 slotF3; split <;> infer_instance
instance srcP_storable (c : Dev nD) (i : Fin 28) : BI.Storable (upEmb : UEmb _ 𝕄) (srcP X Wt c i) := by
  unfold srcP srcAt slotP0 slotP1 slotP2 slotF0 slotF1 slotF2 colP0 colP1 colP2 rowP; split <;> infer_instance
instance barP_storable (c : Dev nD) (e : Fin 8) : BI.Storable (upEmb : UEmb _ 𝕄) (barP (F := F) c e) := by
  unfold barP; infer_instance
instance Rd_storable (g : GSem nD τ sig) (r : ℕ) (d : Fin 8) : BI.Storable (upEmb : UEmb _ 𝕄) ((Rd X Wt).payload g r d) := by
  dsimp only [Rd]
  split
  · infer_instance
  · split <;> infer_instance

section Tables
variable (c : Dev nD) (i : Fin 28)

theorem duties_bar : (Rd X Wt).duties (barCell c) 0 = Finset.univ.erase 0 := by dsimp only [Rd]; exact if_pos ⟨rfl, rfl⟩
theorem duties_send : (Rd X Wt).duties (sendCell c i) 0 = {0} := by
  dsimp only [Rd]; rw [if_pos ⟨rfl, rfl⟩]; simp only [kind_send]
theorem duties_recv : (Rd X Wt).duties (recvCell c i) 0 = {0} := by
  dsimp only [Rd]; rw [if_pos ⟨rfl, rfl⟩]; simp only [kind_recv]
theorem duties_later (g : GSem nD τ sig) : ∀ r, 1 ≤ r → (Rd X Wt).duties g r = ∅ :=
  fun r hr => by dsimp only [Rd]; rw [if_neg fun h => by omega]
theorem amount_bar (d : Fin 8) : (Rd X Wt).amount (barCell c) 0 d = 1 := rfl
theorem amount_send (d : Fin 8) : (Rd X Wt).amount (sendCell c i) 0 d = amt i := by dsimp only [Rd]; simp only [kind_send]
theorem amount_recv (d : Fin 8) : (Rd X Wt).amount (recvCell c i) 0 d = amt i := by dsimp only [Rd]; simp only [kind_recv]
theorem payload_bar (d : Fin 8) : (Rd X Wt).payload (barCell c) 0 d = barP c d := rfl
theorem payload_send (d : Fin 8) : (Rd X Wt).payload (sendCell c i) 0 d = srcP X Wt c i := by dsimp only [Rd]; simp only [kind_send]
theorem payload_recv (d : Fin 8) : (Rd X Wt).payload (recvCell c i) 0 d = recvP X Wt c i := by dsimp only [Rd]; simp only [kind_recv]
theorem expect_bar : (Rd X Wt).expect (barCell c) 0 = 7 := by
  unfold Schedule.expect Schedule.amountOf
  rw [duties_bar, Finset.sum_congr rfl fun d _ => amount_bar X Wt c d, Finset.sum_const, smul_eq_mul]; rfl
theorem expect_send : (Rd X Wt).expect (sendCell c i) 0 = amt i := by
  unfold Schedule.expect Schedule.amountOf; rw [duties_send, Finset.sum_singleton, amount_send]
theorem expect_recv : (Rd X Wt).expect (recvCell c i) 0 = amt i := by
  unfold Schedule.expect Schedule.amountOf; rw [duties_recv, Finset.sum_singleton, amount_recv]
theorem rest_bar : bigSep ((Rd X Wt).duties (barCell c) 0 \ ∅) (fun d => (Rd X Wt).payload (barCell c) 0 d)
    = bigSep (Finset.univ.erase 0) fun e => barP c e := by
  rw [Finset.sdiff_empty, duties_bar]; rfl
theorem rest_send : bigSep ((Rd X Wt).duties (sendCell c i) 0 \ ∅) (fun d => (Rd X Wt).payload (sendCell c i) 0 d) = srcP X Wt c i := by
  rw [Finset.sdiff_empty, duties_send, bigSep_singleton, payload_send]
theorem rest_recv : bigSep ((Rd X Wt).duties (recvCell c i) 0 \ ∅) (fun d => (Rd X Wt).payload (recvCell c i) 0 d) = recvP X Wt c i := by
  rw [Finset.sdiff_empty, duties_recv, bigSep_singleton, payload_recv]
end Tables

end Cert.KernelIdeal.Pf

end
-- ==== Proof.Ideal.Steps.lean ====
/-
  The obligations and resources of one device as lists in program order, and the rules of the exchange on them: a signal
  pays the head of the signals, a copy the head of the transfers, a wait takes the head of the receives.
-/
module

public import proofs.«01_k».proof.Proof.Ideal.Proto

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)

/-! ## Lists of resources -/

def lst {ι : Type} (f : ι → sProp 𝕄) : List ι → sProp 𝕄
  | [] => iprop(emp)
  | a :: l => iprop(f a ∗ lst f l)

theorem lst_eq {ι : Type} [DecidableEq ι] (f : ι → sProp 𝕄) : ∀ (l : List ι), l.Nodup → lst f l = bigSep l.toFinset f
  | [], _ => bigSep_empty.symm
  | a :: l, h => by
    have ha : a ∉ l.toFinset := fun h' => (List.nodup_cons.mp h).1 (List.mem_toFinset.mp h')
    rw [List.toFinset_cons, bigSep_insert ha, ← lst_eq f l (List.nodup_cons.mp h).2]; rfl

/-! ## What a device owes, and the levels -/

inductive Ob where
  | bar (e : Fin 8)
  | tr (i : Fin 28)

def obCell (c : Dev nD) : Ob → GSem nD τ sig
  | .bar e => barCell (px e c)
  | .tr i => recvCell (px (tm i) c) i
def obAmt : Ob → ℕ
  | .bar _ => 1
  | .tr i => amt i
def obLv : Ob → ℕ
  | .bar _ => 1
  | .tr i => 2 + stp i

def owt (c : Dev nD) : List Ob → CellTallies nD τ sig Unit
  | [] => 0
  | o :: l => owt c l + tallyAt (obCell c o) () (obAmt o)

def L (g : GSem nD τ sig) : Finset Unit := if g.1.2 = .tc then {()} else ∅
/-- Levels: barrier cells 1, receive cells by their step from 2, everything else 0. -/
def lv (g : GSem nD τ sig) (_ : Unit) : ℕ :=
  match g.2 with
  | .reg _ => 1
  | .dma q => match kind q with | some (true, i) => 2 + stp i | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (i : Fin 28) : lv (sendCell c i) () = 0 := by unfold lv; simp only [kind_send]
theorem lv_recv (c : Dev nD) (i : Fin 28) : lv (recvCell c i) () = 2 + stp i := by unfold lv; simp only [kind_recv]
theorem lv_ob (c : Dev nD) : ∀ o, lv (obCell c o) () = obLv o
  | .bar _ => rfl
  | .tr i => lv_recv _ i
theorem L_ob (c : Dev nD) : ∀ o, L (obCell c o) = {()}
  | .bar _ => L_tc _ _
  | .tr i => L_tc _ _

theorem owt_pos {c : Dev nD} {g : GSem nD τ sig} {u : Unit} : ∀ {l : List Ob}, 0 < owt c l g u → ∃ o ∈ l, g = obCell c o
  | [], h => absurd h (Nat.lt_irrefl 0)
  | o :: l, h => by
    unfold owt at h
    rw [Pi.add_apply, Finsupp.add_apply, tallyAt_apply] at h
    by_cases hg : g = obCell c o
    · exact ⟨o, List.mem_cons_self, hg⟩
    · rw [if_neg fun h' => hg h'.1, Nat.add_zero] at h
      obtain ⟨o', ho, e⟩ := owt_pos h
      exact ⟨o', List.mem_cons_of_mem _ ho, e⟩

/-- A device may wait on a cell below everything it owes. -/
theorem mayWait (c : Dev nD) (sm : SemLoc sig) (l : List Ob) (h : ∀ o ∈ l, lv ((c : Thread nD τ), sm) () < obLv o) :
    (levAts L lv : sProp 𝕄) ⊢ MayWait (c : Thread nD τ) sm () (owt c l) :=
  MayOwe.of_cut (L := L) (lev := lv) (lv ((c : Thread nD τ), sm) ())
    (fun p hp => by rw [Finset.mem_singleton.mp hp, L_tc]; exact Finset.mem_singleton_self _)
    (fun g u hg => by obtain ⟨o, _, rfl⟩ := owt_pos hg; rw [L_ob]; exact Finset.mem_singleton_self _)
    (fun p hp => by rw [Finset.mem_singleton.mp hp])
    (fun g u hg => by obtain ⟨o, ho, rfl⟩ := owt_pos hg; rw [lv_ob]; exact h o ho)

def ow (c : Dev nD) (l : List Ob) : sProp 𝕄 := iprop(∃ W, owes (c : Thread nD τ) (owt c l) W)

/-! ## The cells' invariants -/

/-- The exchange's semaphores of a device: the barrier, then the DMA semaphores after the staging ones. -/
def csem (k : Fin 57) : SemLoc sig := if k = 0 then .reg barS else .dma ⟨k.val + 4, by have h : sig.nDmaSem = 61 := rfl; have := k.isLt; omega⟩
def kcell (ck : Dev nD × Fin 57) : GSem nD τ sig := ((ck.1 : Thread nD τ), csem ck.2)
def ks (i : Fin 28) : Fin 57 := ⟨(dsend i).val - 4, by have h : sig.nDmaSem = 61 := rfl; have := (dsend i).isLt; omega⟩
def kr (i : Fin 28) : Fin 57 := ⟨(drecv i).val - 4, by have h : sig.nDmaSem = 61 := rfl; have := (drecv i).isLt; omega⟩
theorem csem_ks : ∀ i, csem (ks i) = .dma (dsend i) := by decide +kernel
theorem csem_kr : ∀ i, csem (kr i) = .dma (drecv i) := by decide +kernel

variable (K : Dev nD × Fin 57 → ℕ)

/-- The persistent facts: every cell's invariant, round 0 reached everywhere, the levels. -/
def env : sProp 𝕄 :=
  iprop((bigSep Finset.univ fun ck => cellInv ER (Rd X Wt) (K ck) (kcell ck)) ∗ (bigSep Finset.univ fun ck => reached ER (kcell ck) 0) ∗ levAts L lv)

instance env_persistent : BI.Persistent (env X Wt K) := by unfold env; infer_instance

theorem env_inv (ck : Dev nD × Fin 57) : env X Wt K ⊢ cellInv ER (Rd X Wt) (K ck) (kcell ck) := by
  unfold env; iintro ⟨H, -, -⟩; iapply (bigSep_elim (Finset.mem_univ ck) : _ ⊢ _) $$ H
theorem env_reached (ck : Dev nD × Fin 57) : env X Wt K ⊢ reached ER (kcell ck) 0 := by
  unfold env; iintro ⟨-, H, -⟩; iapply (bigSep_elim (Finset.mem_univ ck) : _ ⊢ _) $$ H
theorem env_lev : env X Wt K ⊢ levAts L lv := by unfold env; iintro ⟨-, -, H⟩; iexact H
theorem env_inv_bar (c : Dev nD) : env X Wt K ⊢ cellInv ER (Rd X Wt) (K (c, 0)) (barCell c) := env_inv X Wt K (c, 0)
theorem env_inv_send (c : Dev nD) (i : Fin 28) : env X Wt K ⊢ cellInv ER (Rd X Wt) (K (c, ks i)) (sendCell c i) := by
  have h := env_inv X Wt K (c, ks i); unfold kcell at h; rw [csem_ks] at h; exact h
theorem env_inv_recv (c : Dev nD) (i : Fin 28) : env X Wt K ⊢ cellInv ER (Rd X Wt) (K (c, kr i)) (recvCell c i) := by
  have h := env_inv X Wt K (c, kr i); unfold kcell at h; rw [csem_kr] at h; exact h
theorem env_reached_bar (c : Dev nD) : env X Wt K ⊢ reached ER (barCell c) 0 := env_reached X Wt K (c, 0)
theorem env_reached_send (c : Dev nD) (i : Fin 28) : env X Wt K ⊢ reached ER (sendCell c i) 0 := by
  have h := env_reached X Wt K (c, ks i); unfold kcell at h; rw [csem_ks] at h; exact h
theorem env_reached_recv (c : Dev nD) (i : Fin 28) : env X Wt K ⊢ reached ER (recvCell c i) 0 := by
  have h := env_reached X Wt K (c, kr i); unfold kcell at h; rw [csem_kr] at h; exact h

/-! ## One device's resources, by program order -/

variable (c : Dev nD)

/-- What the signals pay with: the duty's token and the slots handed over. -/
def Bk (l : List (Fin 8)) : sProp 𝕄 := lst (fun e => iprop(dutyTok ER (barCell (px e c)) 0 e ∗ barP (px e c) e)) l
/-- What the copies pay with: the two duties' tokens. -/
def Tk (l : List (Fin 28)) : sProp 𝕄 := lst (fun i => iprop(dutyTok ER (sendCell c i) 0 0 ∗ dutyTok ER (recvCell (px (tm i) c) i) 0 0)) l
/-- The slots the copies land in. -/
def Fr (l : List (Fin 28)) : sProp 𝕄 := lst (fun i => freeP (px (tm i) c) i) l
/-- What the receive waits use. -/
def Wr (l : List (Fin 28)) : sProp 𝕄 := lst (fun i => iprop(atPos ER (recvCell c i) 0 ∅ 0 ∗ cred (tallyAt (recvCell c i) () (amt i)))) l
/-- The copies started and not yet waited for. -/
def Cr (l : List (Fin 28)) : sProp 𝕄 := lst (fun i => cred (tallyAt (sendCell c i) () (amt i))) l
/-- The positions of the send cells. -/
def Ps (l : List (Fin 28)) : sProp 𝕄 := lst (fun i => atPos ER (sendCell c i) 0 ∅ 0) l
/-- The cells done with: receive and send. -/
def Zr (l : List (Fin 28)) : sProp 𝕄 := lst (fun i => semVal (recvCell c i) 0) l
def Zs (l : List (Fin 28)) : sProp 𝕄 := lst (fun i => semVal (sendCell c i) 0) l
/-- The shares the copies gave back. -/
def Rt (l : List (Fin 28)) : sProp 𝕄 := lst (fun i => srcP X Wt c i) l

abbrev 𝒱₀ : Variants := Variants.none

/-- The weakest precondition of a device's program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem Bk_cons (e : Fin 8) (l : List (Fin 8)) : Bk (F := F) c (e :: l) = iprop((dutyTok ER (barCell (px e c)) 0 e ∗ barP (px e c) e) ∗ Bk c l) := rfl
theorem Tk_cons (i : Fin 28) (l : List (Fin 28)) : Tk (F := F) c (i :: l) = iprop((dutyTok ER (sendCell c i) 0 0 ∗ dutyTok ER (recvCell (px (tm i) c) i) 0 0) ∗ Tk c l) := rfl
theorem Fr_cons (i : Fin 28) (l : List (Fin 28)) : Fr (F := F) c (i :: l) = iprop(freeP (px (tm i) c) i ∗ Fr c l) := rfl
theorem Wr_cons (i : Fin 28) (l : List (Fin 28)) : Wr (F := F) c (i :: l) = iprop((atPos ER (recvCell c i) 0 ∅ 0 ∗ cred (tallyAt (recvCell c i) () (amt i))) ∗ Wr c l) := rfl
theorem Cr_cons (i : Fin 28) (l : List (Fin 28)) : Cr (F := F) c (i :: l) = iprop(cred (tallyAt (sendCell c i) () (amt i)) ∗ Cr c l) := rfl
theorem Ps_cons (i : Fin 28) (l : List (Fin 28)) : Ps (F := F) c (i :: l) = iprop(atPos ER (sendCell c i) 0 ∅ 0 ∗ Ps c l) := rfl
theorem Zr_cons (i : Fin 28) (l : List (Fin 28)) : Zr (F := F) c (i :: l) = iprop(semVal (recvCell c i) 0 ∗ Zr c l) := rfl
theorem Zs_cons (i : Fin 28) (l : List (Fin 28)) : Zs (F := F) c (i :: l) = iprop(semVal (sendCell c i) 0 ∗ Zs c l) := rfl
theorem Rt_cons (i : Fin 28) (l : List (Fin 28)) : Rt X Wt c (i :: l) = iprop(srcP X Wt c i ∗ Rt X Wt c l) := rfl

/-- A signal to the device `e` flips to. -/
theorem signal_step (e : Fin 8) {n : Dev nD} (hn : n = px e c) (he : e ≠ 0) {l : List (Fin 8)} {lo : List Ob} {α : Type} {Q : α → sProp 𝕄} {k : PUnit → Prog (TpuEff nD τ sig (Elt F) Λ₀ .tc) α} :
    iprop(env X Wt K ∗ Bk c (e :: l) ∗ ow c (.bar e :: lo))
      ⊢ iprop((Bk c l ∗ ow c lo -∗ WP c (k ⟨⟩) Q) -∗ WP c (.op (.semSignal (Dev.tc n) barS 1) k) Q) := by
  subst hn
  rw [Bk_cons]
  unfold ow
  iintro ⟨#E, ⟨⟨T, P⟩, B⟩, ⟨%W, O⟩⟩ Kc
  iapply (wp_signal 𝒱₀ ER (Rd X Wt) (c : Thread nD τ) none (dst := (px e c : Thread nD τ)) (sem := barS) (κ := K (px e c, 0)) (r := 0) (d := e) (k' := 1) (by rw [duties_bar]; exact Finset.mem_erase.mpr ⟨he, Finset.mem_univ _⟩)
    (amount_bar X Wt _ _) () (owt c lo) rfl) $$ [O T P]
  · isplitr
    · iapply (env_inv_bar X Wt K (px e c)) $$ E
    isplitl [O]
    · iexact O
    isplitl [T]
    · iexact T
    isplitl [P]
    · rw [payload_bar]; iexact P
    · iapply (env_reached_bar X Wt K (px e c)) $$ E
  iintro O
  iapply Kc
  isplitl [B]
  · iexact B
  · iexists W; iexact O

/-- The barrier wait: every other device's slots for this device's copies. -/
theorem bar_wait {lo : List Ob} (h : ∀ o ∈ lo, 1 < obLv o) {α : Type} {Q : α → sProp 𝕄} {k : PUnit → Prog (TpuEff nD τ sig (Elt F) Λ₀ .tc) α} :
    iprop(env X Wt K ∗ atPos ER (barCell c) 0 ∅ 0 ∗ cred (tallyAt (barCell c) () 7) ∗ ow c lo)
      ⊢ iprop((semVal (barCell c) 0 ∗ ow c lo ∗ (bigSep (Finset.univ.erase 0) fun e => barP c e) -∗ WP c (k ⟨⟩) Q)
          -∗ WP c (.op (.semWait barS 7) k) Q) := by
  unfold ow
  iintro ⟨#E, A, C, ⟨%W, O⟩⟩ Kc
  iapply (wp_wait_rest_token 𝒱₀ ER (Rd X Wt) (c : Thread nD τ) none (w := .semWait barS 7) (sm := .reg barS) (k' := 7) (κ := K (c, 0))
    (wpE_semWait_eq 𝒱₀ (c : Thread nD τ) none Set.univ) (Set.mem_univ _) () (R := 0) (m := 0) (T := ∅) (by rw [expect_bar])) $$ [A C O]
  · isplitr
    · iapply (env_inv_bar X Wt K c) $$ E
    isplitl [C]
    · iexact C
    isplitl [O]
    · iexact O
    isplitr
    · iapply (mayWait c (.reg barS) lo h)
      iapply (env_lev X Wt K) $$ E
    · iexact A
  iintro ⟨O, A, -, P⟩
  ihave P := (by rw [rest_bar] : bigSep ((Rd X Wt).duties (barCell c) 0 \ ∅) (fun d => (Rd X Wt).payload (barCell c) 0 d) ⊢ bigSep (Finset.univ.erase 0) fun e => barP c e) $$ P
  imod (cell_close ER (Rd X Wt) (κ := K (c, 0)) (g := barCell c) (Set.mem_univ _) id (R := 1) (duties_later X Wt _)) $$ [A] with Z
  · isplitr
    · iapply (env_inv_bar X Wt K c) $$ E
    · iexact A
  iapply Kc
  isplitl [Z]
  · iexact Z
  isplitl [O]
  · iexists _; iexact O
  · iexact P

/-- A receive wait: the landed slot. -/
theorem recv_step (i : Fin 28) {sp sp' : Space} {s s' : Shape} {e e' : EltTy} {a : Memref sig .tc sp s e} {b : Memref sig .tc sp' s' e'} {sem : DmaSem sig}
    (hs : sem = drecv i) (hb : b.view.dmaCredit = amt i) {l lz : List (Fin 28)} {lo : List Ob} (h : ∀ o ∈ lo, 2 + stp i < obLv o)
    {α : Type} {Q : α → sProp 𝕄} {k : PUnit → Prog (TpuEff nD τ sig (Elt F) Λ₀ .tc) α} {ha} {hb'} :
    iprop(env X Wt K ∗ Wr c (i :: l) ∗ ow c lo ∗ Zr c lz)
      ⊢ iprop((Wr c l ∗ ow c lo ∗ Zr c (i :: lz) ∗ recvP X Wt c i -∗ WP c (k ⟨⟩) Q)
          -∗ WP c (.op (.waitDma2 sem a b ha hb') k) Q) := by
  subst hs
  rw [Wr_cons, Zr_cons]
  unfold ow
  iintro ⟨#E, ⟨⟨A, C⟩, B⟩, ⟨%W, O⟩, Z⟩ Kc
  iapply (wp_wait_rest_token 𝒱₀ ER (Rd X Wt) (c : Thread nD τ) none (w := .waitDma2 (drecv i) a b ha hb') (sm := .dma (drecv i)) (k' := amt i) (κ := K (c, kr i))
    (fun Kx => by rw [← hb]; exact wpE_waitDma2_eq 𝒱₀ (c : Thread nD τ) none Set.univ Kx) (Set.mem_univ _) () (R := 0) (m := 0) (T := ∅) (by rw [expect_recv, Nat.zero_add])) $$ [A C O]
  · isplitr
    · iapply (env_inv_recv X Wt K c i) $$ E
    isplitl [C]
    · iexact C
    isplitl [O]
    · iexact O
    isplitr
    · iapply (mayWait c (.dma (drecv i)) lo (by rw [lv_recv]; exact h))
      iapply (env_lev X Wt K) $$ E
    · iexact A
  iintro ⟨O, A, -, P⟩
  ihave P := (by rw [rest_recv] : bigSep ((Rd X Wt).duties (recvCell c i) 0 \ ∅) (fun d => (Rd X Wt).payload (recvCell c i) 0 d) ⊢ recvP X Wt c i) $$ P
  imod (cell_close ER (Rd X Wt) (κ := K (c, kr i)) (g := recvCell c i) (Set.mem_univ _) id (R := 1) (duties_later X Wt _)) $$ [A] with Y
  · isplitr
    · iapply (env_inv_recv X Wt K c i) $$ E
    · iexact A
  iapply Kc
  isplitl [B]
  · iexact B
  isplitl [O]
  · iexists _; iexact O
  isplitl [Y Z]
  · isplitl [Y]
    · iexact Y
    · iexact Z
  · iexact P

/-- A send wait: the share of the source. -/
theorem done_step (i : Fin 28) {sp sp' : Space} {s s' : Shape} {e e' : EltTy} {a : Memref sig .tc sp s e} {b : Memref sig .tc sp' s' e'} {sem : DmaSem sig}
    (hs : sem = dsend i) (hb : b.view.dmaCredit = amt i) {l l' lz lr : List (Fin 28)}
    {α : Type} {Q : α → sProp 𝕄} {k : PUnit → Prog (TpuEff nD τ sig (Elt F) Λ₀ .tc) α} {ha} {hb'} :
    iprop(env X Wt K ∗ Ps c (i :: l) ∗ Cr c (i :: l') ∗ ow c [] ∗ Zs c lz ∗ Rt X Wt c lr)
      ⊢ iprop((Ps c l ∗ Cr c l' ∗ ow c [] ∗ Zs c (i :: lz) ∗ Rt X Wt c (i :: lr) -∗ WP c (k ⟨⟩) Q)
          -∗ WP c (.op (.waitDma2 sem a b ha hb') k) Q) := by
  subst hs
  rw [Ps_cons, Cr_cons, Zs_cons, Rt_cons]
  unfold ow
  iintro ⟨#E, ⟨A, B⟩, ⟨C, D⟩, ⟨%W, O⟩, Z, R⟩ Kc
  iapply (wp_wait_rest_token 𝒱₀ ER (Rd X Wt) (c : Thread nD τ) none (w := .waitDma2 (dsend i) a b ha hb') (sm := .dma (dsend i)) (k' := amt i) (κ := K (c, ks i))
    (fun Kx => by rw [← hb]; exact wpE_waitDma2_eq 𝒱₀ (c : Thread nD τ) none Set.univ Kx) (Set.mem_univ _) () (R := 0) (m := 0) (T := ∅) (by rw [expect_send, Nat.zero_add])) $$ [A C O]
  · isplitr
    · iapply (env_inv_send X Wt K c i) $$ E
    isplitl [C]
    · iexact C
    isplitl [O]
    · iexact O
    isplitr
    · iapply (mayWait c (.dma (dsend i)) [] (fun o ho => absurd ho List.not_mem_nil))
      iapply (env_lev X Wt K) $$ E
    · iexact A
  iintro ⟨O, A, -, P⟩
  ihave P := (by rw [rest_send] : bigSep ((Rd X Wt).duties (sendCell c i) 0 \ ∅) (fun d => (Rd X Wt).payload (sendCell c i) 0 d) ⊢ srcP X Wt c i) $$ P
  imod (cell_close ER (Rd X Wt) (κ := K (c, ks i)) (g := sendCell c i) (Set.mem_univ _) id (R := 1) (duties_later X Wt _)) $$ [A] with Y
  · isplitr
    · iapply (env_inv_send X Wt K c i) $$ E
    · iexact A
  iapply Kc
  isplitl [B]
  · iexact B
  isplitl [D]
  · iexact D
  isplitl [O]
  · iexists _; iexact O
  isplitl [Y Z]
  · isplitl [Y]
    · iexact Y
    · iexact Z
  isplitl [P]
  · iexact P
  · iexact R

/-- A copy to a peer: the landing slot and a share of the source go with it. -/
theorem send_step (i : Fin 28) {sp sp' : Space} {s : Shape} {e : EltTy} {a : Memref sig .tc sp s e} {n : Dev nD} {b : Memref sig .tc sp' s e} {sS sR : DmaSem sig}
    (hn : n = px (tm i) c) (hS : sS = dsend i) (hR : sR = drecv i) (hb : b.view.dmaCredit = amt i)
    {q : PosShare TreeShare} {fs : Buf (Elt F) (a.view.loc (c : Thread nD τ))} {src' : sProp 𝕄}
    (hsrc : src' ⊢ (a.view.loc (c : Thread nD τ) ↦[a.view.set]{q} fs)) (hpay : (a.view.loc (c : Thread nD τ) ↦[a.view.set]{q} fs) ⊢ srcP X Wt c i)
    (hfree : freeP (F := F) (px (tm i) c) i ⊢ iprop(∃ fd : Buf (Elt F) (b.view.loc (px (tm i) c : Thread nD τ)), (b.view.loc (px (tm i) c : Thread nD τ) ↦[b.view.set]{fullShare} fd)))
    (hland : ∀ fd : Buf (Elt F) (b.view.loc (px (tm i) c : Thread nD τ)), (b.view.loc (px (tm i) c : Thread nD τ) ↦[b.view.set]{fullShare} (b.view.write (Elt F) fd (a.view.read (Elt F) fs) Finset.univ)) ⊢ recvP X Wt (px (tm i) c) i)
    {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ src' ∗ Tk c (i :: l) ∗ Fr c (i :: l') ∗ ow c (.tr i :: lo) ∗ Cr c lc)
      ⊢ iprop((Tk c l ∗ Fr c l' ∗ ow c lo ∗ Cr c (i :: lc) -∗ WP c (k ⟨⟩) Q)
          -∗ WP c (.op (.enqueueDma a (.remote (Dev.tc n : Thread nD τ) b (.dma sS) hsc) (.dma sR) hsrc' hdst hsem) k) Q) := by
  subst hn hS hR
  rw [Tk_cons, Fr_cons, Cr_cons]
  unfold ow
  iintro ⟨#E, S, ⟨⟨T1, T2⟩, T⟩, ⟨F1, F2⟩, ⟨%W, O⟩, C⟩ Kc
  ihave S := hsrc $$ S
  ihave F1 := hfree $$ F1
  icases F1 with ⟨%fd, F1⟩
  iapply (wp_send_pointsTo 𝒱₀ ER (Rd X Wt) (c : Thread nD τ) none (κ₁ := K (c, ks i)) (κ₂ := K (px (tm i) c, kr i)) (r₁ := 0) (r₂ := 0) (d₁ := 0) (d₂ := 0) (fd := fd)
    (by rw [duties_send]; exact Finset.mem_singleton_self _) (by rw [duties_recv]; exact Finset.mem_singleton_self _)
    (sem := .dma (drecv i)) () () (amt i) hb (amount_send X Wt c i 0) (amount_recv X Wt _ i 0) (owt c lo) rfl (W := W)
    (by rw [payload_send]; exact hpay) (by rw [payload_recv]; exact hland fd)) $$ [S F1 O T1 T2]
  · isplitr
    · iapply (env_inv_send X Wt K c i) $$ E
    isplitr
    · iapply (env_inv_recv X Wt K (px (tm i) c) i) $$ E
    isplitl [S]
    · iexact S
    isplitl [F1]
    · iexact F1
    isplitl [O]
    · iexact O
    isplitl [T1]
    · iexact T1
    isplitr
    · iapply (env_reached_send X Wt K c i) $$ E
    isplitl [T2]
    · iexact T2
    · iapply (env_reached_recv X Wt K (px (tm i) c) i) $$ E
  iintro ⟨C', O⟩
  iapply Kc
  isplitl [T]
  · iexact T
  isplitl [F2]
  · iexact F2
  isplitl [O]
  · iexists W; iexact O
  isplitl [C']
  · iexact C'
  · iexact C

end Cert.KernelIdeal.Pf

end
-- ==== Proof.Ideal.Moves.lean ====
/-
  The moves of the exchange, per buffer family: what lands where, and the copies from the columns, from a slot and from the
  row blocks.
-/
module

public import proofs.«01_k».proof.Proof.Ideal.Steps

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

/-! ## Who owns what a copy carries -/

theorem own_col : ∀ (i : Fin 28) (c : Dev nD), src i = .col → own (px (tm i) c) (sl i) = c := by decide +kernel
theorem own_slot : ∀ (i : Fin 28) (j : Fin 7) (c : Dev nD), src i = .slot j → own (px (tm i) c) (sl i) = own c j := by decide +kernel
theorem own_row : ∀ (i : Fin 28) (r : Fin 7) (c : Dev nD), src i = .row r →
    own (px (tm i) c) (sl i) = c ∧ k0_off1 c (BitVec.ofNat 32 (1 + r.val)) = ![512 * (px (tm i) c).val, 0] := by decide +kernel

/-- A share cut: what the next copy takes, and what is kept. -/
theorem cut {ℓ : Loc nD τ sig} {I : Finset (Idx ℓ)} {f : Buf (Elt F) ℓ} (n : ℕ) :
    (ℓ ↦[I]{kp n} f : sProp 𝕄) ⊢ iprop((ℓ ↦[I]{sh n} f) ∗ (ℓ ↦[I]{kp (n + 1)} f)) := by
  exact (pointsTo_share (PosShare.mem_left_op_right (kp n))).1

/-! ## Family 0 -/

theorem slot_emb0 (j : Fin 7) (a : Fin 512) (b : Fin 2688) : (slotM0 j).view.emb (ix2 a b) = (ix3 j a b : S7x512x2688.Idx) := by
  show (((Memref.whole cc0_scratch0).view.slice (slotR0 j)).reshape S512x2688 _).emb (ix2 a b) = _
  show (slotR0 j).emb (Shape.reshapeEquiv squeezes_S1x512x2688_S512x2688.numel_eq (ix2 a b)) = _
  rw [show Shape.reshapeEquiv squeezes_S1x512x2688_S512x2688.numel_eq (ix2 a b) = (ix3 (⟨0, Nat.one_pos⟩ : Fin 1) a b : S1x512x2688.Idx) from reshapeEquiv_ix2_1ab _ a b]
  funext d
  fin_cases d <;> refine Fin.ext ?_
  · show j.val + 1 * 0 = j.val; omega
  · show 0 + 1 * a.val = a.val; omega
  · show 0 + 1 * b.val = b.val; omega

theorem slot_read0 (j : Fin 7) (f : S7x512x2688.Idx → Elt F .fp8e4m3) (a : Fin 512) (b : Fin 2688) :
    (slotM0 j).view.read (Elt F) f (ix2 a b) = f (ix3 j a b) := by
  show f ((slotM0 j).view.emb (ix2 a b)) = _
  rw [slot_emb0]

theorem land0 (d : Dev nD) (j : Fin 7) (fd : S7x512x2688.Idx → Elt F .fp8e4m3) (g : S512x2688.Idx → Elt F .fp8e4m3)
    (h : ∀ a b, g (ix2 a b) = wfin0 Wt d (ix3 j a b)) :
    slotF0 d j fullShare ((slotM0 j).view.write (Elt F) fd g Finset.univ) ⊢ slotP0 Wt d j fullShare := by
  unfold slotP0 slotF0
  refine Entails.of_eq (pointsTo_congr fun i hi => ?_)
  obtain ⟨y, -, rfl⟩ := Finset.mem_map.mp hi
  obtain ⟨a, b, rfl⟩ : ∃ (a : Fin 512) (b : Fin 2688), y = ix2 a b := ⟨y 0, y 1, eq_ix2 y⟩
  rw [View.write_emb_of_mem _ _ (Finset.mem_univ _), slot_emb0]
  exact h _ _

theorem freeP_0 (d : Dev nD) (i : Fin 28) (h : part i = 0) : freeP (F := F) d i = freeP0 d (sl i) := by unfold freeP; rw [h]
theorem recvP_0 (d : Dev nD) (i : Fin 28) (h : part i = 0) : recvP X Wt d i = slotP0 Wt d (sl i) fullShare := by unfold recvP; rw [h]

/-- A copy of the device's own columns. -/
theorem send_col0 (i : Fin 28) (n : ℕ)  (hp : part i = 0) (hq : src i = .col) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ colP0 Wt c (kp n) ∗ Tk c (i :: l) ∗ Fr c (i :: l') ∗ ow c (.tr i :: lo) ∗ Cr c lc)
      ⊢ iprop((colP0 Wt c (kp (n + 1)) ∗ Tk c l ∗ Fr c l' ∗ ow c lo ∗ Cr c (i :: lc) -∗ WP c (k ⟨⟩) Q)
          -∗ WP c (.op (.enqueueDma colM0 (.remote (Dev.tc nd : Thread nD τ) (slotM0 j) (.dma sS) hsc) (.dma sR) hsrc' hdst hsem) k) Q) := by
  subst hj
  have hc : colP0 Wt c (kp n) ⊢ iprop(colP0 Wt c (sh n) ∗ colP0 Wt c (kp (n + 1))) := cut n
  iintro ⟨#E, S, T, R, O, C⟩ Kc
  ihave S := hc $$ S
  icases S with ⟨S, S'⟩
  iapply (send_step X Wt K c i (b := slotM0 (sl i)) (src' := colP0 Wt c (sh n)) hn hS hR (by unfold amt; rw [hp]; rfl) .rfl
    (by unfold srcP; rw [hp, hq, hs]; exact .rfl) (by rw [freeP_0 _ i hp]; exact .rfl)
    (fun fd => by
      rw [recvP_0 X Wt _ i hp]
      refine land0 Wt _ (sl i) fd _ fun a b => ?_
      show Wt c _ = Wt (own (px (tm i) c) (sl i)) _
      rw [own_col i c hq]
      refine congrArg (Wt c) (funext fun d => ?_)
      fin_cases d <;> refine Fin.ext ?_
      · show 0 + 1 * a.val = a.val; omega
      · show 0 + 1 * b.val = 0 + b.val; omega)) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

/-- A copy of a landed slot. -/
theorem send_slot0 (i : Fin 28) (n : ℕ) (s : Fin 7) (hp : part i = 0) (hq : src i = .slot s) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ slotP0 Wt c s (kp n) ∗ Tk c (i :: l) ∗ Fr c (i :: l') ∗ ow c (.tr i :: lo) ∗ Cr c lc)
      ⊢ iprop((slotP0 Wt c s (kp (n + 1)) ∗ Tk c l ∗ Fr c l' ∗ ow c lo ∗ Cr c (i :: lc) -∗ WP c (k ⟨⟩) Q)
          -∗ WP c (.op (.enqueueDma (slotM0 s) (.remote (Dev.tc nd : Thread nD τ) (slotM0 j) (.dma sS) hsc) (.dma sR) hsrc' hdst hsem) k) Q) := by
  subst hj
  have hc : slotP0 Wt c s (kp n) ⊢ iprop(slotP0 Wt c s (sh n) ∗ slotP0 Wt c s (kp (n + 1))) := cut n
  iintro ⟨#E, S, T, R, O, C⟩ Kc
  ihave S := hc $$ S
  icases S with ⟨S, S'⟩
  iapply (send_step X Wt K c i (b := slotM0 (sl i)) (src' := slotP0 Wt c s (sh n)) hn hS hR (by unfold amt; rw [hp]; rfl) .rfl
    (by unfold srcP; rw [hp, hq, hs]; exact .rfl) (by rw [freeP_0 _ i hp]; exact .rfl)
    (fun fd => by
      rw [recvP_0 X Wt _ i hp]
      refine land0 Wt _ (sl i) fd _ fun a b => ?_
      rw [slot_read0]
      show Wt (own c s) _ = Wt (own (px (tm i) c) (sl i)) _
      rw [own_slot i s c hq])) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

/-! ## Family 1 -/

theorem slot_emb1 (j : Fin 7) (a : Fin 512) (b : Fin 2688) : (slotM1 j).view.emb (ix2 a b) = (ix3 j a b : S7x512x2688.Idx) := by
  show (((Memref.whole cc0_scratch1).view.slice (slotR1 j)).reshape S512x2688 _).emb (ix2 a b) = _
  show (slotR1 j).emb (Shape.reshapeEquiv squeezes_S1x512x2688_S512x2688.numel_eq (ix2 a b)) = _
  rw [show Shape.reshapeEquiv squeezes_S1x512x2688_S512x2688.numel_eq (ix2 a b) = (ix3 (⟨0, Nat.one_pos⟩ : Fin 1) a b : S1x512x2688.Idx) from reshapeEquiv_ix2_1ab _ a b]
  funext d
  fin_cases d <;> refine Fin.ext ?_
  · show j.val + 1 * 0 = j.val; omega
  · show 0 + 1 * a.val = a.val; omega
  · show 0 + 1 * b.val = b.val; omega

theorem slot_read1 (j : Fin 7) (f : S7x512x2688.Idx → Elt F .fp8e4m3) (a : Fin 512) (b : Fin 2688) :
    (slotM1 j).view.read (Elt F) f (ix2 a b) = f (ix3 j a b) := by
  show f ((slotM1 j).view.emb (ix2 a b)) = _
  rw [slot_emb1]

theorem land1 (d : Dev nD) (j : Fin 7) (fd : S7x512x2688.Idx → Elt F .fp8e4m3) (g : S512x2688.Idx → Elt F .fp8e4m3)
    (h : ∀ a b, g (ix2 a b) = wfin1 Wt d (ix3 j a b)) :
    slotF1 d j fullShare ((slotM1 j).view.write (Elt F) fd g Finset.univ) ⊢ slotP1 Wt d j fullShare := by
  unfold slotP1 slotF1
  refine Entails.of_eq (pointsTo_congr fun i hi => ?_)
  obtain ⟨y, -, rfl⟩ := Finset.mem_map.mp hi
  obtain ⟨a, b, rfl⟩ : ∃ (a : Fin 512) (b : Fin 2688), y = ix2 a b := ⟨y 0, y 1, eq_ix2 y⟩
  rw [View.write_emb_of_mem _ _ (Finset.mem_univ _), slot_emb1]
  exact h _ _

theorem freeP_1 (d : Dev nD) (i : Fin 28) (h : part i = 1) : freeP (F := F) d i = freeP1 d (sl i) := by unfold freeP; rw [h]
theorem recvP_1 (d : Dev nD) (i : Fin 28) (h : part i = 1) : recvP X Wt d i = slotP1 Wt d (sl i) fullShare := by unfold recvP; rw [h]

/-- A copy of the device's own columns. -/
theorem send_col1 (i : Fin 28) (n : ℕ)  (hp : part i = 1) (hq : src i = .col) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ colP1 Wt c (kp n) ∗ Tk c (i :: l) ∗ Fr c (i :: l') ∗ ow c (.tr i :: lo) ∗ Cr c lc)
      ⊢ iprop((colP1 Wt c (kp (n + 1)) ∗ Tk c l ∗ Fr c l' ∗ ow c lo ∗ Cr c (i :: lc) -∗ WP c (k ⟨⟩) Q)
          -∗ WP c (.op (.enqueueDma colM1 (.remote (Dev.tc nd : Thread nD τ) (slotM1 j) (.dma sS) hsc) (.dma sR) hsrc' hdst hsem) k) Q) := by
  subst hj
  have hc : colP1 Wt c (kp n) ⊢ iprop(colP1 Wt c (sh n) ∗ colP1 Wt c (kp (n + 1))) := cut n
  iintro ⟨#E, S, T, R, O, C⟩ Kc
  ihave S := hc $$ S
  icases S with ⟨S, S'⟩
  iapply (send_step X Wt K c i (b := slotM1 (sl i)) (src' := colP1 Wt c (sh n)) hn hS hR (by unfold amt; rw [hp]; rfl) .rfl
    (by unfold srcP; rw [hp, hq, hs]; exact .rfl) (by rw [freeP_1 _ i hp]; exact .rfl)
    (fun fd => by
      rw [recvP_1 X Wt _ i hp]
      refine land1 Wt _ (sl i) fd _ fun a b => ?_
      show Wt c _ = Wt (own (px (tm i) c) (sl i)) _
      rw [own_col i c hq]
      refine congrArg (Wt c) (funext fun d => ?_)
      fin_cases d <;> refine Fin.ext ?_
      · show 0 + 1 * a.val = a.val; omega
      · show 2688 + 1 * b.val = 2688 + b.val; omega)) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

/-- A copy of a landed slot. -/
theorem send_slot1 (i : Fin 28) (n : ℕ) (s : Fin 7) (hp : part i = 1) (hq : src i = .slot s) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ slotP1 Wt c s (kp n) ∗ Tk c (i :: l) ∗ Fr c (i :: l') ∗ ow c (.tr i :: lo) ∗ Cr c lc)
      ⊢ iprop((slotP1 Wt c s (kp (n + 1)) ∗ Tk c l ∗ Fr c l' ∗ ow c lo ∗ Cr c (i :: lc) -∗ WP c (k ⟨⟩) Q)
          -∗ WP c (.op (.enqueueDma (slotM1 s) (.remote (Dev.tc nd : Thread nD τ) (slotM1 j) (.dma sS) hsc) (.dma sR) hsrc' hdst hsem) k) Q) := by
  subst hj
  have hc : slotP1 Wt c s (kp n) ⊢ iprop(slotP1 Wt c s (sh n) ∗ slotP1 Wt c s (kp (n + 1))) := cut n
  iintro ⟨#E, S, T, R, O, C⟩ Kc
  ihave S := hc $$ S
  icases S with ⟨S, S'⟩
  iapply (send_step X Wt K c i (b := slotM1 (sl i)) (src' := slotP1 Wt c s (sh n)) hn hS hR (by unfold amt; rw [hp]; rfl) .rfl
    (by unfold srcP; rw [hp, hq, hs]; exact .rfl) (by rw [freeP_1 _ i hp]; exact .rfl)
    (fun fd => by
      rw [recvP_1 X Wt _ i hp]
      refine land1 Wt _ (sl i) fd _ fun a b => ?_
      rw [slot_read1]
      show Wt (own c s) _ = Wt (own (px (tm i) c) (sl i)) _
      rw [own_slot i s c hq])) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

/-! ## Family 2 -/

theorem slot_emb2 (j : Fin 7) (a : Fin 512) (b : Fin 2816) : (slotM2 j).view.emb (ix2 a b) = (ix3 j a b : S7x512x2816.Idx) := by
  show (((Memref.whole cc0_scratch2).view.slice (slotR2 j)).reshape S512x2816 _).emb (ix2 a b) = _
  show (slotR2 j).emb (Shape.reshapeEquiv squeezes_S1x512x2816_S512x2816.numel_eq (ix2 a b)) = _
  rw [show Shape.reshapeEquiv squeezes_S1x512x2816_S512x2816.numel_eq (ix2 a b) = (ix3 (⟨0, Nat.one_pos⟩ : Fin 1) a b : S1x512x2816.Idx) from reshapeEquiv_ix2_1ab _ a b]
  funext d
  fin_cases d <;> refine Fin.ext ?_
  · show j.val + 1 * 0 = j.val; omega
  · show 0 + 1 * a.val = a.val; omega
  · show 0 + 1 * b.val = b.val; omega

theorem slot_read2 (j : Fin 7) (f : S7x512x2816.Idx → Elt F .fp8e4m3) (a : Fin 512) (b : Fin 2816) :
    (slotM2 j).view.read (Elt F) f (ix2 a b) = f (ix3 j a b) := by
  show f ((slotM2 j).view.emb (ix2 a b)) = _
  rw [slot_emb2]

theorem land2 (d : Dev nD) (j : Fin 7) (fd : S7x512x2816.Idx → Elt F .fp8e4m3) (g : S512x2816.Idx → Elt F .fp8e4m3)
    (h : ∀ a b, g (ix2 a b) = wfin2 Wt d (ix3 j a b)) :
    slotF2 d j fullShare ((slotM2 j).view.write (Elt F) fd g Finset.univ) ⊢ slotP2 Wt d j fullShare := by
  unfold slotP2 slotF2
  refine Entails.of_eq (pointsTo_congr fun i hi => ?_)
  obtain ⟨y, -, rfl⟩ := Finset.mem_map.mp hi
  obtain ⟨a, b, rfl⟩ : ∃ (a : Fin 512) (b : Fin 2816), y = ix2 a b := ⟨y 0, y 1, eq_ix2 y⟩
  rw [View.write_emb_of_mem _ _ (Finset.mem_univ _), slot_emb2]
  exact h _ _

theorem freeP_2 (d : Dev nD) (i : Fin 28) (h : part i = 2) : freeP (F := F) d i = freeP2 d (sl i) := by unfold freeP; rw [h]
theorem recvP_2 (d : Dev nD) (i : Fin 28) (h : part i = 2) : recvP X Wt d i = slotP2 Wt d (sl i) fullShare := by unfold recvP; rw [h]

/-- A copy of the device's own columns. -/
theorem send_col2 (i : Fin 28) (n : ℕ)  (hp : part i = 2) (hq : src i = .col) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ colP2 Wt c (kp n) ∗ Tk c (i :: l) ∗ Fr c (i :: l') ∗ ow c (.tr i :: lo) ∗ Cr c lc)
      ⊢ iprop((colP2 Wt c (kp (n + 1)) ∗ Tk c l ∗ Fr c l' ∗ ow c lo ∗ Cr c (i :: lc) -∗ WP c (k ⟨⟩) Q)
          -∗ WP c (.op (.enqueueDma colM2 (.remote (Dev.tc nd : Thread nD τ) (slotM2 j) (.dma sS) hsc) (.dma sR) hsrc' hdst hsem) k) Q) := by
  subst hj
  have hc : colP2 Wt c (kp n) ⊢ iprop(colP2 Wt c (sh n) ∗ colP2 Wt c (kp (n + 1))) := cut n
  iintro ⟨#E, S, T, R, O, C⟩ Kc
  ihave S := hc $$ S
  icases S with ⟨S, S'⟩
  iapply (send_step X Wt K c i (b := slotM2 (sl i)) (src' := colP2 Wt c (sh n)) hn hS hR (by unfold amt; rw [hp]; rfl) .rfl
    (by unfold srcP; rw [hp, hq, hs]; exact .rfl) (by rw [freeP_2 _ i hp]; exact .rfl)
    (fun fd => by
      rw [recvP_2 X Wt _ i hp]
      refine land2 Wt _ (sl i) fd _ fun a b => ?_
      show Wt c _ = Wt (own (px (tm i) c) (sl i)) _
      rw [own_col i c hq]
      refine congrArg (Wt c) (funext fun d => ?_)
      fin_cases d <;> refine Fin.ext ?_
      · show 0 + 1 * a.val = a.val; omega
      · show 5376 + 1 * b.val = 5376 + b.val; omega)) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

/-- A copy of a landed slot. -/
theorem send_slot2 (i : Fin 28) (n : ℕ) (s : Fin 7) (hp : part i = 2) (hq : src i = .slot s) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ slotP2 Wt c s (kp n) ∗ Tk c (i :: l) ∗ Fr c (i :: l') ∗ ow c (.tr i :: lo) ∗ Cr c lc)
      ⊢ iprop((slotP2 Wt c s (kp (n + 1)) ∗ Tk c l ∗ Fr c l' ∗ ow c lo ∗ Cr c (i :: lc) -∗ WP c (k ⟨⟩) Q)
          -∗ WP c (.op (.enqueueDma (slotM2 s) (.remote (Dev.tc nd : Thread nD τ) (slotM2 j) (.dma sS) hsc) (.dma sR) hsrc' hdst hsem) k) Q) := by
  subst hj
  have hc : slotP2 Wt c s (kp n) ⊢ iprop(slotP2 Wt c s (sh n) ∗ slotP2 Wt c s (kp (n + 1))) := cut n
  iintro ⟨#E, S, T, R, O, C⟩ Kc
  ihave S := hc $$ S
  icases S with ⟨S, S'⟩
  iapply (send_step X Wt K c i (b := slotM2 (sl i)) (src' := slotP2 Wt c s (sh n)) hn hS hR (by unfold amt; rw [hp]; rfl) .rfl
    (by unfold srcP; rw [hp, hq, hs]; exact .rfl) (by rw [freeP_2 _ i hp]; exact .rfl)
    (fun fd => by
      rw [recvP_2 X Wt _ i hp]
      refine land2 Wt _ (sl i) fd _ fun a b => ?_
      rw [slot_read2]
      show Wt (own c s) _ = Wt (own (px (tm i) c) (sl i)) _
      rw [own_slot i s c hq])) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

/-! ## Family 3 -/

theorem slot_emb3 (j : Fin 7) (a : Fin 512) (b : Fin 512) : (slotM3 j).view.emb (ix2 a b) = (ix3 j a b : S7x512x512.Idx) := by
  show (((Memref.whole cc0_scratch3).view.slice (slotR3 j)).reshape S512x512 _).emb (ix2 a b) = _
  show (slotR3 j).emb (Shape.reshapeEquiv squeezes_S1x512x512_S512x512.numel_eq (ix2 a b)) = _
  rw [show Shape.reshapeEquiv squeezes_S1x512x512_S512x512.numel_eq (ix2 a b) = (ix3 (⟨0, Nat.one_pos⟩ : Fin 1) a b : S1x512x512.Idx) from reshapeEquiv_ix2_1ab _ a b]
  funext d
  fin_cases d <;> refine Fin.ext ?_
  · show j.val + 1 * 0 = j.val; omega
  · show 0 + 1 * a.val = a.val; omega
  · show 0 + 1 * b.val = b.val; omega

theorem slot_read3 (j : Fin 7) (f : S7x512x512.Idx → Elt F .fp8e4m3) (a : Fin 512) (b : Fin 512) :
    (slotM3 j).view.read (Elt F) f (ix2 a b) = f (ix3 j a b) := by
  show f ((slotM3 j).view.emb (ix2 a b)) = _
  rw [slot_emb3]

theorem land3 (d : Dev nD) (j : Fin 7) (fd : S7x512x512.Idx → Elt F .fp8e4m3) (g : S512x512.Idx → Elt F .fp8e4m3)
    (h : ∀ a b, g (ix2 a b) = xfin X d (ix3 j a b)) :
    slotF3 d j fullShare ((slotM3 j).view.write (Elt F) fd g Finset.univ) ⊢ slotP3 X d j fullShare := by
  unfold slotP3 slotF3
  refine Entails.of_eq (pointsTo_congr fun i hi => ?_)
  obtain ⟨y, -, rfl⟩ := Finset.mem_map.mp hi
  obtain ⟨a, b, rfl⟩ : ∃ (a : Fin 512) (b : Fin 512), y = ix2 a b := ⟨y 0, y 1, eq_ix2 y⟩
  rw [View.write_emb_of_mem _ _ (Finset.mem_univ _), slot_emb3]
  exact h _ _

theorem freeP_3 (d : Dev nD) (i : Fin 28) (h : part i = 3) : freeP (F := F) d i = freeP3 d (sl i) := by unfold freeP; rw [h]
theorem recvP_3 (d : Dev nD) (i : Fin 28) (h : part i = 3) : recvP X Wt d i = slotP3 X d (sl i) fullShare := by unfold recvP; rw [h]

/-- A copy of a row block of `x`. -/
theorem send_row (i : Fin 28) (n : ℕ) (r : Fin 7) (hp : part i = 3) (hq : src i = .row r) (hs : shr i = n) (j : Fin 7) (hj : sl i = j) {nd : Dev nD} {sS sR : DmaSem sig}
    (hn : nd = px (tm i) c) (hS : sS = dsend i) (hR : sR = drecv i) {l l' lc : List (Fin 28)} {lo : List Ob} {hsc} {hsrc'} {hdst} {hsem}
    {α : Type} {Q : α → sProp 𝕄} {k : PUnit → Prog (TpuEff nD τ sig (Elt F) Λ₀ .tc) α} :
    iprop(env X Wt K ∗ rowP X c r (kp n) ∗ Tk c (i :: l) ∗ Fr c (i :: l') ∗ ow c (.tr i :: lo) ∗ Cr c lc)
      ⊢ iprop((rowP X c r (kp (n + 1)) ∗ Tk c l ∗ Fr c l' ∗ ow c lo ∗ Cr c (i :: lc) -∗ WP c (k ⟨⟩) Q)
          -∗ WP c (.op (.enqueueDma (rowM c r) (.remote (Dev.tc nd : Thread nD τ) (slotM3 j) (.dma sS) hsc) (.dma sR) hsrc' hdst hsem) k) Q) := by
  subst hj
  have hc : rowP X c r (kp n) ⊢ iprop(rowP X c r (sh n) ∗ rowP X c r (kp (n + 1))) := cut n
  iintro ⟨#E, S, T, R, O, C⟩ Kc
  ihave S := hc $$ S
  icases S with ⟨S, S'⟩
  iapply (send_step X Wt K c i (b := slotM3 (sl i)) (src' := rowP X c r (sh n)) hn hS hR (by unfold amt; rw [hp]; rfl) .rfl
    (by unfold srcP; rw [hp, hq, hs]; exact .rfl) (by rw [freeP_3 _ i hp]; exact .rfl)
    (fun fd => by
      rw [recvP_3 X Wt _ i hp]
      refine land3 X _ (sl i) fd _ fun a b => ?_
      show X c _ = X (own (px (tm i) c) (sl i)) _
      rw [(own_row i r c hq).1]
      have ho := (own_row i r c hq).2
      refine congrArg (X c) (funext fun d => ?_)
      fin_cases d <;> refine Fin.ext ?_
      · show k0_off1 c (BitVec.ofNat 32 (1 + r.val)) 0 + 1 * a.val = 512 * (px (tm i) c).val + a.val; rw [ho, Nat.one_mul]; rfl
      · show k0_off1 c (BitVec.ofNat 32 (1 + r.val)) 1 + 1 * b.val = b.val; rw [ho, Nat.one_mul]; exact Nat.zero_add _)) $$ [S T R O C]
  · isplitr
    · iexact E
    isplitl [S]
    · iexact S
    isplitl [T]
    · iexact T
    isplitl [R]
    · iexact R
    isplitl [O]
    · iexact O
    · iexact C
  iintro H
  iapply Kc
  isplitl [S']
  · iexact S'
  · iexact H

end Cert.KernelIdeal.Pf

end
-- ==== Proof.Ideal.Vals.lean ====
/-
  The values of one device: what its loads read, the accumulators of the three column parts, and the epilogue's chunks;
  with them the rules of the loads and stores.
-/
module

public import proofs.«01_k».proof.Proof.Ideal.Moves
public import Idealize.ShloMosaic.Lib.Pipeline.Value

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

/-! ## What the loads read -/

/-- The device's own row block of its `x`. -/
def xo : S512x512.Idx → Elt F .fp8e4m3 := (Memref.whole cc0_stg0_0).view.readAt (Elt F) (Rect.unit (s := S4096x512) (k0_off2 c) S512x512.size (k0_off2_inb c)).toLoadRect (X c)
/-- Slot `j` of the row blocks. -/
def xs (j : Fin 7) : S1x512x512.Idx → Elt F .fp8e4m3 := (Memref.whole cc0_scratch3).view.readAt (Elt F) (slotR3 j).toLoadRect (xfin X c)
/-- Part 0: its rectangle of columns, the device's own columns, slot `j`, and the part of the result. -/
abbrev colR0 : Rect S512x8192 := Rect.unit (s := S512x8192) ![0, 0] S512x2688.size inb_S512x8192_S512x2688_0_0
def wo0 : S512x2688.Idx → Elt F .fp8e4m3 := (Memref.whole cc0_stg1_0).view.readAt (Elt F) colR0.toLoadRect (Wt c)
def ws0 (j : Fin 7) : S1x512x2688.Idx → Elt F .fp8e4m3 := (Memref.whole cc0_scratch0).view.readAt (Elt F) (slotR0 j).toLoadRect (wfin0 Wt c)
def rd0 (f : S512x8192.Idx → Elt F .f32) : S512x2688.Idx → Elt F .f32 := (Memref.whole cc0_stg4_0).view.readAt (Elt F) colR0.toLoadRect f
/-- The accumulator of part 0 after the blocks of the slots in the list, latest first. -/
def acc0 : List (Fin 7) → S512x2688.Idx → Elt F .f32
  | [] => k0_pay2 (xo X c) (wo0 Wt c)
  | j :: l => k0_pay5 (acc0 l) (xs X c j) (ws0 Wt c j)

/-- Part 1: its rectangle of columns, the device's own columns, slot `j`, and the part of the result. -/
abbrev colR1 : Rect S512x8192 := Rect.unit (s := S512x8192) ![0, 2688] S512x2688.size inb_S512x8192_S512x2688_0_2688
def wo1 : S512x2688.Idx → Elt F .fp8e4m3 := (Memref.whole cc0_stg1_0).view.readAt (Elt F) colR1.toLoadRect (Wt c)
def ws1 (j : Fin 7) : S1x512x2688.Idx → Elt F .fp8e4m3 := (Memref.whole cc0_scratch1).view.readAt (Elt F) (slotR1 j).toLoadRect (wfin1 Wt c)
def rd1 (f : S512x8192.Idx → Elt F .f32) : S512x2688.Idx → Elt F .f32 := (Memref.whole cc0_stg4_0).view.readAt (Elt F) colR1.toLoadRect f
/-- The accumulator of part 1 after the blocks of the slots in the list, latest first. -/
def acc1 : List (Fin 7) → S512x2688.Idx → Elt F .f32
  | [] => k0_pay3 (k0_pay1 (xo X c)) (wo1 Wt c)
  | j :: l => k0_pay6 (acc1 l) (xs X c j) (ws1 Wt c j)

/-- Part 2: its rectangle of columns, the device's own columns, slot `j`, and the part of the result. -/
abbrev colR2 : Rect S512x8192 := Rect.unit (s := S512x8192) ![0, 5376] S512x2816.size inb_S512x8192_S512x2816_0_5376
def wo2 : S512x2816.Idx → Elt F .fp8e4m3 := (Memref.whole cc0_stg1_0).view.readAt (Elt F) colR2.toLoadRect (Wt c)
def ws2 (j : Fin 7) : S1x512x2816.Idx → Elt F .fp8e4m3 := (Memref.whole cc0_scratch2).view.readAt (Elt F) (slotR2 j).toLoadRect (wfin2 Wt c)
def rd2 (f : S512x8192.Idx → Elt F .f32) : S512x2816.Idx → Elt F .f32 := (Memref.whole cc0_stg4_0).view.readAt (Elt F) colR2.toLoadRect f
/-- The accumulator of part 2 after the blocks of the slots in the list, latest first. -/
def acc2 : List (Fin 7) → S512x2816.Idx → Elt F .f32
  | [] => k0_pay4 (k0_pay1 (xo X c)) (wo2 Wt c)
  | j :: l => k0_pay18 (acc2 l) (xs X c j) (ws2 Wt c j)

/-- The chunk `k` of the epilogue. -/
theorem chunk_inb : ∀ k : Fin 8, ∀ a, (![0, 1024 * k.val] : Fin 2 → ℕ) a + S512x1024.size a ≤ S512x8192.size a := by decide
abbrev chR (k : Fin 8) : Rect S512x8192 := Rect.unit (s := S512x8192) ![0, 1024 * k.val] S512x1024.size (chunk_inb k)
/-- The epilogue's function of one element, at the product `s` of the scales. -/
def sil (s : F .f32) (x : Elt F .f32) : Elt F .f32 := k0_pay44 s (fun _ => x) (ix2 (0 : Fin 512) (0 : Fin 1024))
/-- The result with the first `k` chunks through the epilogue. -/
def ep (f : S512x8192.Idx → Elt F .f32) (s : F .f32) (k : ℕ) : S512x8192.Idx → Elt F .f32 := fun i => if (i 1).val < 1024 * k then sil s (f i) else f i
def rdc (k : Fin 8) (f : S512x8192.Idx → Elt F .f32) : S512x1024.Idx → Elt F .f32 := (Memref.whole cc0_stg4_0).view.readAt (Elt F) (chR k).toLoadRect f

theorem pay44_apply (s : F .f32) (v : S512x1024.Idx → Elt F .f32) (y : S512x1024.Idx) : k0_pay44 s v y = sil s (v y) := by
  unfold sil k0_pay44
  simp only [shapeCast_self]
  rfl

variable {α : Type}

/-! ## Held -/

def outP (a0 : S512x2688.Idx → Elt F .f32) (a1 : S512x2688.Idx → Elt F .f32) (a2 : S512x2816.Idx → Elt F .f32) : sProp 𝕄 :=
  iprop(∃ f, ⌜rd0 f = a0 ∧ rd1 f = a1 ∧ rd2 f = a2⌝ ∗ (((c : Thread nD τ).loc cc0_stg4_0) ↦{fullShare} f))
def epP (f : S512x8192.Idx → Elt F .f32) : sProp 𝕄 := (((c : Thread nD τ).loc cc0_stg4_0) ↦{fullShare} f)
def sc2P (A : S1.Idx → Elt F .f32) : sProp 𝕄 := (((c : Thread nD τ).loc cc0_stg2_0) ↦{fullShare} A)
def sc3P (A : S1.Idx → Elt F .f32) : sProp 𝕄 := (((c : Thread nD τ).loc cc0_stg3_0) ↦{fullShare} A)

section Rules
variable {Q : α → sProp (MT nD τ sig Unit (Elt F) ℕ UU ℕ)}

theorem slot_sub0 (j : Fin 7) : (Memref.whole cc0_scratch0 : Memref sig .tc .vmem _ _).view.setOn (slotR0 j).set ⊆ (slotM0 j).view.set := by
  rw [View.set_reshape, View.set_slice]; exact Finset.Subset.refl _
theorem load_slot0 (j : Fin 7) (q : PosShare TreeShare) {hl} {k : (S1x512x2688.Idx → Elt F .fp8e4m3) → Prog (TpuEff nD τ sig (Elt F) Λ₀ .tc) α} :
    slotP0 Wt c j q ⊢ iprop((slotP0 Wt c j q -∗ WP c (k (ws0 Wt c j)) Q) -∗ WP c (.op (.load (Memref.whole cc0_scratch0) (slotR0 j).toLoadRect hl) k) Q) :=
  wp_load 𝒱₀ (c : Thread nD τ) none Set.univ (m := Memref.whole cc0_scratch0) (slot_sub0 j)

theorem slot_sub1 (j : Fin 7) : (Memref.whole cc0_scratch1 : Memref sig .tc .vmem _ _).view.setOn (slotR1 j).set ⊆ (slotM1 j).view.set := by
  rw [View.set_reshape, View.set_slice]; exact Finset.Subset.refl _
theorem load_slot1 (j : Fin 7) (q : PosShare TreeShare) {hl} {k : (S1x512x2688.Idx → Elt F .fp8e4m3) → Prog (TpuEff nD τ sig (Elt F) Λ₀ .tc) α} :
    slotP1 Wt c j q ⊢ iprop((slotP1 Wt c j q -∗ WP c (k (ws1 Wt c j)) Q) -∗ WP c (.op (.load (Memref.whole cc0_scratch1) (slotR1 j).toLoadRect hl) k) Q) :=
  wp_load 𝒱₀ (c : Thread nD τ) none Set.univ (m := Memref.whole cc0_scratch1) (slot_sub1 j)

theorem slot_sub2 (j : Fin 7) : (Memref.whole cc0_scratch2 : Memref sig .tc .vmem _ _).view.setOn (slotR2 j).set ⊆ (slotM2 j).view.set := by
  rw [View.set_reshape, View.set_slice]; exact Finset.Subset.refl _
theorem load_slot2 (j : Fin 7) (q : PosShare TreeShare) {hl} {k : (S1x512x2816.Idx → Elt F .fp8e4m3) → Prog (TpuEff nD τ sig (Elt F) Λ₀ .tc) α} :
    slotP2 Wt c j q ⊢ iprop((slotP2 Wt c j q -∗ WP c (k (ws2 Wt c j)) Q) -∗ WP c (.op (.load (Memref.whole cc0_scratch2) (slotR2 j).toLoadRect hl) k) Q) :=
  wp_load 𝒱₀ (c : Thread nD τ) none Set.univ (m := Memref.whole cc0_scratch2) (slot_sub2 j)

theorem slot_sub3 (j : Fin 7) : (Memref.whole cc0_scratch3 : Memref sig .tc .vmem _ _).view.setOn (slotR3 j).set ⊆ (slotM3 j).view.set := by
  rw [View.set_reshape, View.set_slice]; exact Finset.Subset.refl _
theorem load_slot3 (j : Fin 7) (q : PosShare TreeShare) {hl} {k : (S1x512x512.Idx → Elt F .fp8e4m3) → Prog (TpuEff nD τ sig (Elt F) Λ₀ .tc) α} :
    slotP3 X c j q ⊢ iprop((slotP3 X c j q -∗ WP c (k (xs X c j)) Q) -∗ WP c (.op (.load (Memref.whole cc0_scratch3) (slotR3 j).toLoadRect hl) k) Q) :=
  wp_load 𝒱₀ (c : Thread nD τ) none Set.univ (m := Memref.whole cc0_scratch3) (slot_sub3 j)

theorem load_col0 (q : PosShare TreeShare) {hl} {k : (S512x2688.Idx → Elt F .fp8e4m3) → Prog (TpuEff nD τ sig (Elt F) Λ₀ .tc) α} :
    colP0 Wt c q ⊢ iprop((colP0 Wt c q -∗ WP c (k (wo0 Wt c)) Q) -∗ WP c (.op (.load (Memref.whole cc0_stg1_0) colR0.toLoadRect hl) k) Q) :=
  wp_load 𝒱₀ (c : Thread nD τ) none Set.univ (m := Memref.whole cc0_stg1_0) (by rw [View.set_slice]; exact Finset.Subset.refl _)

theorem load_col1 (q : PosShare TreeShare) {hl} {k : (S512x2688.Idx → Elt F .fp8e4m3) → Prog (TpuEff nD τ sig (Elt F) Λ₀ .tc) α} :
    colP1 Wt c q ⊢ iprop((colP1 Wt c q -∗ WP c (k (wo1 Wt c)) Q) -∗ WP c (.op (.load (Memref.whole cc0_stg1_0) colR1.toLoadRect hl) k) Q) :=
  wp_load 𝒱₀ (c : Thread nD τ) none Set.univ (m := Memref.whole cc0_stg1_0) (by rw [View.set_slice]; exact Finset.Subset.refl _)

theorem load_col2 (q : PosShare TreeShare) {hl} {k : (S512x2816.Idx → Elt F .fp8e4m3) → Prog (TpuEff nD τ sig (Elt F) Λ₀ .tc) α} :
    colP2 Wt c q ⊢ iprop((colP2 Wt c q -∗ WP c (k (wo2 Wt c)) Q) -∗ WP c (.op (.load (Memref.whole cc0_stg1_0) colR2.toLoadRect hl) k) Q) :=
  wp_load 𝒱₀ (c : Thread nD τ) none Set.univ (m := Memref.whole cc0_stg1_0) (by rw [View.set_slice]; exact Finset.Subset.refl _)

theorem load_own (q : PosShare TreeShare) {hl} {k : (S512x512.Idx → Elt F .fp8e4m3) → Prog (TpuEff nD τ sig (Elt F) Λ₀ .tc) α} :
    ownP X c q ⊢ iprop((ownP X c q -∗ WP c (k (xo X c)) Q) -∗ WP c (.op (.load (Memref.whole cc0_stg0_0) (Rect.unit (s := S4096x512) (k0_off2 c) S512x512.size (k0_off2_inb c)).toLoadRect hl) k) Q) :=
  wp_load 𝒱₀ (c : Thread nD τ) none Set.univ (m := Memref.whole cc0_stg0_0) (by rw [View.set_slice]; exact Finset.Subset.refl _)

theorem load_out0 (a0 : S512x2688.Idx → Elt F .f32) (a1 : S512x2688.Idx → Elt F .f32) (a2 : S512x2816.Idx → Elt F .f32) {hl} {k : (S512x2688.Idx → Elt F .f32) → Prog (TpuEff nD τ sig (Elt F) Λ₀ .tc) α} :
    outP c a0 a1 a2 ⊢ iprop((outP c a0 a1 a2 -∗ WP c (k a0) Q) -∗ WP c (.op (.load (Memref.whole cc0_stg4_0) colR0.toLoadRect hl) k) Q) := by
  unfold outP
  iintro ⟨%f, %h, H⟩ Kc
  obtain ⟨rfl, rfl, rfl⟩ := h
  iapply (wp_load 𝒱₀ (c : Thread nD τ) none Set.univ (m := Memref.whole cc0_stg4_0) (Finset.subset_univ _)) $$ H
  iintro H
  iapply Kc
  iexists f
  isplitr
  · ipureintro; exact ⟨rfl, rfl, rfl⟩
  · iexact H

theorem rd_wr00 (f : S512x8192.Idx → Elt F .f32) (w : S512x2688.Idx → Elt F .f32) :
    rd0 (((Memref.whole cc0_stg4_0).access colR0 : View sig .tc _ _ _).write (Elt F) f w Finset.univ) = w := by
  funext y
  exact View.write_emb_of_mem (v := ((Memref.whole cc0_stg4_0).access colR0 : View sig .tc _ _ _)) f w (Finset.mem_univ y)

theorem rd_wr10 (f : S512x8192.Idx → Elt F .f32) (w : S512x2688.Idx → Elt F .f32) :
    rd1 (((Memref.whole cc0_stg4_0).access colR0 : View sig .tc _ _ _).write (Elt F) f w Finset.univ) = rd1 f := by
  funext y
  refine View.write_of_not_mem (v := ((Memref.whole cc0_stg4_0).access colR0 : View sig .tc _ _ _)) f w Finset.univ (fun hi => ?_)
  obtain ⟨z, -, hz⟩ := Finset.mem_map.mp hi
  have h : 0 + 1 * (z 1).val = 2688 + 1 * (y 1).val := congrArg (fun i : S512x8192.Idx => (i 1).val) hz
  have h1 : (z 1).val < 2688 := (z 1).isLt
  have h2 : (y 1).val < 2688 := (y 1).isLt
  omega

theorem rd_wr20 (f : S512x8192.Idx → Elt F .f32) (w : S512x2688.Idx → Elt F .f32) :
    rd2 (((Memref.whole cc0_stg4_0).access colR0 : View sig .tc _ _ _).write (Elt F) f w Finset.univ) = rd2 f := by
  funext y
  refine View.write_of_not_mem (v := ((Memref.whole cc0_stg4_0).access colR0 : View sig .tc _ _ _)) f w Finset.univ (fun hi => ?_)
  obtain ⟨z, -, hz⟩ := Finset.mem_map.mp hi
  have h : 0 + 1 * (z 1).val = 5376 + 1 * (y 1).val := congrArg (fun i : S512x8192.Idx => (i 1).val) hz
  have h1 : (z 1).val < 2688 := (z 1).isLt
  have h2 : (y 1).val < 2816 := (y 1).isLt
  omega

theorem store_out0 (a0 : S512x2688.Idx → Elt F .f32) (a1 : S512x2688.Idx → Elt F .f32) (a2 : S512x2816.Idx → Elt F .f32) (w : S512x2688.Idx → Elt F .f32) {w' : S512x2688.Idx → Elt F .f32} (hw : w = w') {hx} {hm} {k : PUnit → Prog (TpuEff nD τ sig (Elt F) Λ₀ .tc) α} :
    outP c a0 a1 a2 ⊢ iprop((outP c w' a1 a2 -∗ WP c (k ⟨⟩) Q) -∗ WP c (.op (.store (Memref.whole cc0_stg4_0) colR0 w Finset.univ hx hm) k) Q) := by
  subst hw
  unfold outP
  iintro ⟨%f, %h, H⟩ Kc
  obtain ⟨rfl, rfl, rfl⟩ := h
  iapply (wp_store 𝒱₀ (c : Thread nD τ) none Set.univ (m := Memref.whole cc0_stg4_0) (r := colR0) (Mk := Finset.univ) (Finset.subset_univ _)) $$ H
  iintro H
  iapply Kc
  iexists _
  isplitr
  · ipureintro; exact ⟨rd_wr00 f w, rd_wr10 f w, rd_wr20 f w⟩
  · iexact H

theorem load_out1 (a0 : S512x2688.Idx → Elt F .f32) (a1 : S512x2688.Idx → Elt F .f32) (a2 : S512x2816.Idx → Elt F .f32) {hl} {k : (S512x2688.Idx → Elt F .f32) → Prog (TpuEff nD τ sig (Elt F) Λ₀ .tc) α} :
    outP c a0 a1 a2 ⊢ iprop((outP c a0 a1 a2 -∗ WP c (k a1) Q) -∗ WP c (.op (.load (Memref.whole cc0_stg4_0) colR1.toLoadRect hl) k) Q) := by
  unfold outP
  iintro ⟨%f, %h, H⟩ Kc
  obtain ⟨rfl, rfl, rfl⟩ := h
  iapply (wp_load 𝒱₀ (c : Thread nD τ) none Set.univ (m := Memref.whole cc0_stg4_0) (Finset.subset_univ _)) $$ H
  iintro H
  iapply Kc
  iexists f
  isplitr
  · ipureintro; exact ⟨rfl, rfl, rfl⟩
  · iexact H

theorem rd_wr01 (f : S512x8192.Idx → Elt F .f32) (w : S512x2688.Idx → Elt F .f32) :
    rd0 (((Memref.whole cc0_stg4_0).access colR1 : View sig .tc _ _ _).write (Elt F) f w Finset.univ) = rd0 f := by
  funext y
  refine View.write_of_not_mem (v := ((Memref.whole cc0_stg4_0).access colR1 : View sig .tc _ _ _)) f w Finset.univ (fun hi => ?_)
  obtain ⟨z, -, hz⟩ := Finset.mem_map.mp hi
  have h : 2688 + 1 * (z 1).val = 0 + 1 * (y 1).val := congrArg (fun i : S512x8192.Idx => (i 1).val) hz
  have h1 : (z 1).val < 2688 := (z 1).isLt
  have h2 : (y 1).val < 2688 := (y 1).isLt
  omega

theorem rd_wr11 (f : S512x8192.Idx → Elt F .f32) (w : S512x2688.Idx → Elt F .f32) :
    rd1 (((Memref.whole cc0_stg4_0).access colR1 : View sig .tc _ _ _).write (Elt F) f w Finset.univ) = w := by
  funext y
  exact View.write_emb_of_mem (v := ((Memref.whole cc0_stg4_0).access colR1 : View sig .tc _ _ _)) f w (Finset.mem_univ y)

theorem rd_wr21 (f : S512x8192.Idx → Elt F .f32) (w : S512x2688.Idx → Elt F .f32) :
    rd2 (((Memref.whole cc0_stg4_0).access colR1 : View sig .tc _ _ _).write (Elt F) f w Finset.univ) = rd2 f := by
  funext y
  refine View.write_of_not_mem (v := ((Memref.whole cc0_stg4_0).access colR1 : View sig .tc _ _ _)) f w Finset.univ (fun hi => ?_)
  obtain ⟨z, -, hz⟩ := Finset.mem_map.mp hi
  have h : 2688 + 1 * (z 1).val = 5376 + 1 * (y 1).val := congrArg (fun i : S512x8192.Idx => (i 1).val) hz
  have h1 : (z 1).val < 2688 := (z 1).isLt
  have h2 : (y 1).val < 2816 := (y 1).isLt
  omega

theorem store_out1 (a0 : S512x2688.Idx → Elt F .f32) (a1 : S512x2688.Idx → Elt F .f32) (a2 : S512x2816.Idx → Elt F .f32) (w : S512x2688.Idx → Elt F .f32) {w' : S512x2688.Idx → Elt F .f32} (hw : w = w') {hx} {hm} {k : PUnit → Prog (TpuEff nD τ sig (Elt F) Λ₀ .tc) α} :
    outP c a0 a1 a2 ⊢ iprop((outP c a0 w' a2 -∗ WP c (k ⟨⟩) Q) -∗ WP c (.op (.store (Memref.whole cc0_stg4_0) colR1 w Finset.univ hx hm) k) Q) := by
  subst hw
  unfold outP
  iintro ⟨%f, %h, H⟩ Kc
  obtain ⟨rfl, rfl, rfl⟩ := h
  iapply (wp_store 𝒱₀ (c : Thread nD τ) none Set.univ (m := Memref.whole cc0_stg4_0) (r := colR1) (Mk := Finset.univ) (Finset.subset_univ _)) $$ H
  iintro H
  iapply Kc
  iexists _
  isplitr
  · ipureintro; exact ⟨rd_wr01 f w, rd_wr11 f w, rd_wr21 f w⟩
  · iexact H

theorem load_out2 (a0 : S512x2688.Idx → Elt F .f32) (a1 : S512x2688.Idx → Elt F .f32) (a2 : S512x2816.Idx → Elt F .f32) {hl} {k : (S512x2816.Idx → Elt F .f32) → Prog (TpuEff nD τ sig (Elt F) Λ₀ .tc) α} :
    outP c a0 a1 a2 ⊢ iprop((outP c a0 a1 a2 -∗ WP c (k a2) Q) -∗ WP c (.op (.load (Memref.whole cc0_stg4_0) colR2.toLoadRect hl) k) Q) := by
  unfold outP
  iintro ⟨%f, %h, H⟩ Kc
  obtain ⟨rfl, rfl, rfl⟩ := h
  iapply (wp_load 𝒱₀ (c : Thread nD τ) none Set.univ (m := Memref.whole cc0_stg4_0) (Finset.subset_univ _)) $$ H
  iintro H
  iapply Kc
  iexists f
  isplitr
  · ipureintro; exact ⟨rfl, rfl, rfl⟩
  · iexact H

theorem rd_wr02 (f : S512x8192.Idx → Elt F .f32) (w : S512x2816.Idx → Elt F .f32) :
    rd0 (((Memref.whole cc0_stg4_0).access colR2 : View sig .tc _ _ _).write (Elt F) f w Finset.univ) = rd0 f := by
  funext y
  refine View.write_of_not_mem (v := ((Memref.whole cc0_stg4_0).access colR2 : View sig .tc _ _ _)) f w Finset.univ (fun hi => ?_)
  obtain ⟨z, -, hz⟩ := Finset.mem_map.mp hi
  have h : 5376 + 1 * (z 1).val = 0 + 1 * (y 1).val := congrArg (fun i : S512x8192.Idx => (i 1).val) hz
  have h1 : (z 1).val < 2816 := (z 1).isLt
  have h2 : (y 1).val < 2688 := (y 1).isLt
  omega

theorem rd_wr12 (f : S512x8192.Idx → Elt F .f32) (w : S512x2816.Idx → Elt F .f32) :
    rd1 (((Memref.whole cc0_stg4_0).access colR2 : View sig .tc _ _ _).write (Elt F) f w Finset.univ) = rd1 f := by
  funext y
  refine View.write_of_not_mem (v := ((Memref.whole cc0_stg4_0).access colR2 : View sig .tc _ _ _)) f w Finset.univ (fun hi => ?_)
  obtain ⟨z, -, hz⟩ := Finset.mem_map.mp hi
  have h : 5376 + 1 * (z 1).val = 2688 + 1 * (y 1).val := congrArg (fun i : S512x8192.Idx => (i 1).val) hz
  have h1 : (z 1).val < 2816 := (z 1).isLt
  have h2 : (y 1).val < 2688 := (y 1).isLt
  omega

theorem rd_wr22 (f : S512x8192.Idx → Elt F .f32) (w : S512x2816.Idx → Elt F .f32) :
    rd2 (((Memref.whole cc0_stg4_0).access colR2 : View sig .tc _ _ _).write (Elt F) f w Finset.univ) = w := by
  funext y
  exact View.write_emb_of_mem (v := ((Memref.whole cc0_stg4_0).access colR2 : View sig .tc _ _ _)) f w (Finset.mem_univ y)

theorem store_out2 (a0 : S512x2688.Idx → Elt F .f32) (a1 : S512x2688.Idx → Elt F .f32) (a2 : S512x2816.Idx → Elt F .f32) (w : S512x2816.Idx → Elt F .f32) {w' : S512x2816.Idx → Elt F .f32} (hw : w = w') {hx} {hm} {k : PUnit → Prog (TpuEff nD τ sig (Elt F) Λ₀ .tc) α} :
    outP c a0 a1 a2 ⊢ iprop((outP c a0 a1 w' -∗ WP c (k ⟨⟩) Q) -∗ WP c (.op (.store (Memref.whole cc0_stg4_0) colR2 w Finset.univ hx hm) k) Q) := by
  subst hw
  unfold outP
  iintro ⟨%f, %h, H⟩ Kc
  obtain ⟨rfl, rfl, rfl⟩ := h
  iapply (wp_store 𝒱₀ (c : Thread nD τ) none Set.univ (m := Memref.whole cc0_stg4_0) (r := colR2) (Mk := Finset.univ) (Finset.subset_univ _)) $$ H
  iintro H
  iapply Kc
  iexists _
  isplitr
  · ipureintro; exact ⟨rd_wr02 f w, rd_wr12 f w, rd_wr22 f w⟩
  · iexact H

/-- A receive of a block of family 0: the slot is held whole, with the contents stated. -/
theorem recv0 (K : Dev nD × Fin 57 → ℕ) (i : Fin 28) (j : Fin 7) (hp : part i = 0) (hj : sl i = j) {sp sp' : Space} {s s' : Shape} {e e' : EltTy} {a : Memref sig .tc sp s e} {b : Memref sig .tc sp' s' e'} {sem : DmaSem sig}
    (hs : sem = drecv i) (hb : b.view.dmaCredit = amt i) {l lz : List (Fin 28)} {lo : List Ob} (h : ∀ o ∈ lo, 2 + stp i < obLv o)
    {k : PUnit → Prog (TpuEff nD τ sig (Elt F) Λ₀ .tc) α} {ha} {hb'} :
    iprop(env X Wt K ∗ Wr c (i :: l) ∗ ow c lo ∗ Zr c lz)
      ⊢ iprop((Wr c l ∗ ow c lo ∗ Zr c (i :: lz) ∗ slotP0 Wt c j (kp 0) -∗ WP c (k ⟨⟩) Q)
          -∗ WP c (.op (.waitDma2 sem a b ha hb') k) Q) := by
  subst hj
  have := recv_step X Wt K c i hs hb (l := l) (lz := lz) h (Q := Q) (k := k) (a := a) (ha := ha) (hb' := hb')
  rw [recvP_0 X Wt c i hp] at this
  exact this

/-- A receive of a block of family 1: the slot is held whole, with the contents stated. -/
theorem recv1 (K : Dev nD × Fin 57 → ℕ) (i : Fin 28) (j : Fin 7) (hp : part i = 1) (hj : sl i = j) {sp sp' : Space} {s s' : Shape} {e e' : EltTy} {a : Memref sig .tc sp s e} {b : Memref sig .tc sp' s' e'} {sem : DmaSem sig}
    (hs : sem = drecv i) (hb : b.view.dmaCredit = amt i) {l lz : List (Fin 28)} {lo : List Ob} (h : ∀ o ∈ lo, 2 + stp i < obLv o)
    {k : PUnit → Prog (TpuEff nD τ sig (Elt F) Λ₀ .tc) α} {ha} {hb'} :
    iprop(env X Wt K ∗ Wr c (i :: l) ∗ ow c lo ∗ Zr c lz)
      ⊢ iprop((Wr c l ∗ ow c lo ∗ Zr c (i :: lz) ∗ slotP1 Wt c j (kp 0) -∗ WP c (k ⟨⟩) Q)
          -∗ WP c (.op (.waitDma2 sem a b ha hb') k) Q) := by
  subst hj
  have := recv_step X Wt K c i hs hb (l := l) (lz := lz) h (Q := Q) (k := k) (a := a) (ha := ha) (hb' := hb')
  rw [recvP_1 X Wt c i hp] at this
  exact this

/-- A receive of a block of family 2: the slot is held whole, with the contents stated. -/
theorem recv2 (K : Dev nD × Fin 57 → ℕ) (i : Fin 28) (j : Fin 7) (hp : part i = 2) (hj : sl i = j) {sp sp' : Space} {s s' : Shape} {e e' : EltTy} {a : Memref sig .tc sp s e} {b : Memref sig .tc sp' s' e'} {sem : DmaSem sig}
    (hs : sem = drecv i) (hb : b.view.dmaCredit = amt i) {l lz : List (Fin 28)} {lo : List Ob} (h : ∀ o ∈ lo, 2 + stp i < obLv o)
    {k : PUnit → Prog (TpuEff nD τ sig (Elt F) Λ₀ .tc) α} {ha} {hb'} :
    iprop(env X Wt K ∗ Wr c (i :: l) ∗ ow c lo ∗ Zr c lz)
      ⊢ iprop((Wr c l ∗ ow c lo ∗ Zr c (i :: lz) ∗ slotP2 Wt c j (kp 0) -∗ WP c (k ⟨⟩) Q)
          -∗ WP c (.op (.waitDma2 sem a b ha hb') k) Q) := by
  subst hj
  have := recv_step X Wt K c i hs hb (l := l) (lz := lz) h (Q := Q) (k := k) (a := a) (ha := ha) (hb' := hb')
  rw [recvP_2 X Wt c i hp] at this
  exact this

/-- A receive of a block of family 3: the slot is held whole, with the contents stated. -/
theorem recv3 (K : Dev nD × Fin 57 → ℕ) (i : Fin 28) (j : Fin 7) (hp : part i = 3) (hj : sl i = j) {sp sp' : Space} {s s' : Shape} {e e' : EltTy} {a : Memref sig .tc sp s e} {b : Memref sig .tc sp' s' e'} {sem : DmaSem sig}
    (hs : sem = drecv i) (hb : b.view.dmaCredit = amt i) {l lz : List (Fin 28)} {lo : List Ob} (h : ∀ o ∈ lo, 2 + stp i < obLv o)
    {k : PUnit → Prog (TpuEff nD τ sig (Elt F) Λ₀ .tc) α} {ha} {hb'} :
    iprop(env X Wt K ∗ Wr c (i :: l) ∗ ow c lo ∗ Zr c lz)
      ⊢ iprop((Wr c l ∗ ow c lo ∗ Zr c (i :: lz) ∗ slotP3 X c j (kp 0) -∗ WP c (k ⟨⟩) Q)
          -∗ WP c (.op (.waitDma2 sem a b ha hb') k) Q) := by
  subst hj
  have := recv_step X Wt K c i hs hb (l := l) (lz := lz) h (Q := Q) (k := k) (a := a) (ha := ha) (hb' := hb')
  rw [recvP_3 X Wt c i hp] at this
  exact this

theorem load_chunk (f : S512x8192.Idx → Elt F .f32) (s : F .f32) (k' : Fin 8) (n : ℕ) (hn : k'.val = n) {hl} {k : (S512x1024.Idx → Elt F .f32) → Prog (TpuEff nD τ sig (Elt F) Λ₀ .tc) α} :
    epP c (ep f s n) ⊢ iprop((epP c (ep f s n) -∗ WP c (k (rdc k' f)) Q) -∗ WP c (.op (.load (Memref.whole cc0_stg4_0) (chR k').toLoadRect hl) k) Q) := by
  subst hn
  have h : rdc k' (ep f s k') = rdc k' f := by
    funext y
    show (if 1024 * k'.val + 1 * (y 1).val < 1024 * k'.val then _ else _) = _
    rw [if_neg (by omega)]
    rfl
  rw [← h]
  exact wp_load 𝒱₀ (c : Thread nD τ) none Set.univ (m := Memref.whole cc0_stg4_0) (Finset.subset_univ _)

theorem store_chunk (f : S512x8192.Idx → Elt F .f32) (s : F .f32) (k' : Fin 8) (n n' : ℕ) (hn : k'.val = n) (hn' : n + 1 = n') (w : S512x1024.Idx → Elt F .f32) (hw : w = k0_pay44 s (rdc k' f)) {hx} {hm}
    {k : PUnit → Prog (TpuEff nD τ sig (Elt F) Λ₀ .tc) α} :
    epP c (ep f s n) ⊢ iprop((epP c (ep f s n') -∗ WP c (k ⟨⟩) Q) -∗ WP c (.op (.store (Memref.whole cc0_stg4_0) (chR k') w Finset.univ hx hm) k) Q) := by
  subst hn'
  subst hn
  have h : ((Memref.whole cc0_stg4_0).access (chR k') : View sig .tc _ _ _).write (Elt F) (ep f s k') w Finset.univ = ep f s (k'.val + 1) := by
    funext i
    by_cases hi : i ∈ ((Memref.whole cc0_stg4_0).access (chR k') : View sig .tc _ _ _).setOn Finset.univ
    · obtain ⟨z, -, rfl⟩ := Finset.mem_map.mp hi
      refine (View.write_emb_of_mem (v := ((Memref.whole cc0_stg4_0).access (chR k') : View sig .tc _ _ _)) (ep f s k') w (Finset.mem_univ z)).trans ?_
      have h1 : (z 1).val < 1024 := (z 1).isLt
      show w z = if 1024 * k'.val + 1 * (z 1).val < 1024 * (k'.val + 1) then sil s (rdc k' f z) else _
      rw [if_pos (by omega), hw, pay44_apply]
    · refine (View.write_of_not_mem (v := ((Memref.whole cc0_stg4_0).access (chR k') : View sig .tc _ _ _)) (ep f s k') w Finset.univ hi).trans ?_
      have h0 : ¬ (1024 * k'.val ≤ (i 1).val ∧ (i 1).val < 1024 * (k'.val + 1)) := fun hh => hi (Finset.mem_map.mpr
        ⟨ix2 (i 0) ⟨(i 1).val - 1024 * k'.val, by omega⟩, Finset.mem_univ _, funext fun d => by
          fin_cases d <;> refine Fin.ext ?_
          · show 0 + 1 * (i 0).val = (i 0).val; omega
          · show 1024 * k'.val + 1 * ((i 1).val - 1024 * k'.val) = (i 1).val; omega⟩)
      unfold ep
      by_cases h2 : (i 1).val < 1024 * k'.val
      · rw [if_pos h2, if_pos (by omega)]
      · rw [if_neg h2, if_neg (by omega)]
  rw [← h]
  exact wp_store 𝒱₀ (c : Thread nD τ) none Set.univ (m := Memref.whole cc0_stg4_0) (r := chR k') (Mk := Finset.univ) (Finset.subset_univ _)

abbrev R1 : Rect S1 := Rect.unit (s := S1) ![0] S1.size inb_S1_S1_0

theorem load_sc2 (A : S1.Idx → Elt F .f32) {hl} {k : (S1.Idx → Elt F .f32) → Prog (TpuEff nD τ sig (Elt F) Λ₀ .tc) α} :
    sc2P c A ⊢ iprop((sc2P c A -∗ WP c (k A) Q) -∗ WP c (.op (.load (Memref.whole cc0_stg2_0) R1.toLoadRect hl) k) Q) := by
  have h : (Memref.whole cc0_stg2_0 : Memref sig .tc .smem _ _).view.readAt (Elt F) R1.toLoadRect A = A := by
    funext y; exact congrArg A (funext fun d => Fin.ext (by fin_cases d; show 0 + 1 * (y 0).val = (y 0).val; omega))
  have e : k A = k ((Memref.whole cc0_stg2_0 : Memref sig .tc .smem _ _).view.readAt (Elt F) R1.toLoadRect A) := by rw [h]
  rw [e]
  exact wp_load 𝒱₀ (c : Thread nD τ) none Set.univ (m := Memref.whole cc0_stg2_0) (Finset.subset_univ _)

theorem load_sc3 (A : S1.Idx → Elt F .f32) {hl} {k : (S1.Idx → Elt F .f32) → Prog (TpuEff nD τ sig (Elt F) Λ₀ .tc) α} :
    sc3P c A ⊢ iprop((sc3P c A -∗ WP c (k A) Q) -∗ WP c (.op (.load (Memref.whole cc0_stg3_0) R1.toLoadRect hl) k) Q) := by
  have h : (Memref.whole cc0_stg3_0 : Memref sig .tc .smem _ _).view.readAt (Elt F) R1.toLoadRect A = A := by
    funext y; exact congrArg A (funext fun d => Fin.ext (by fin_cases d; show 0 + 1 * (y 0).val = (y 0).val; omega))
  have e : k A = k ((Memref.whole cc0_stg3_0 : Memref sig .tc .smem _ _).view.readAt (Elt F) R1.toLoadRect A) := by rw [h]
  rw [e]
  exact wp_load 𝒱₀ (c : Thread nD τ) none Set.univ (m := Memref.whole cc0_stg3_0) (Finset.subset_univ _)

end Rules

end Cert.KernelIdeal.Pf

end
-- ==== Proof.Ideal.Order.lean ====
/-
  The order of the exchange: what is still to be sent, waited for and signalled after each step of the program,
  and the landing slots a device is handed at the barrier.
-/
module

public import proofs.«01_k».proof.Proof.Ideal.Vals

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

/-! ## What is left, and what is done

`trN`, `wrN`, `drN`, `sgN`: the transfers, the waits for them, the waits for their departure and the signals that are left after
`N` of them; `obN`: what is owed then (the signals first); `czN`, `rzN`, `dzN`: the transfers, receives and departures done. -/

abbrev tr28 : List (Fin 28) := []
abbrev tr27 : List (Fin 28) := 20 :: tr28
abbrev tr26 : List (Fin 28) := 19 :: tr27
abbrev tr25 : List (Fin 28) := 18 :: tr26
abbrev tr24 : List (Fin 28) := 17 :: tr25
abbrev tr23 : List (Fin 28) := 13 :: tr24
abbrev tr22 : List (Fin 28) := 12 :: tr23
abbrev tr21 : List (Fin 28) := 11 :: tr22
abbrev tr20 : List (Fin 28) := 10 :: tr21
abbrev tr19 : List (Fin 28) := 6 :: tr20
abbrev tr18 : List (Fin 28) := 5 :: tr19
abbrev tr17 : List (Fin 28) := 4 :: tr18
abbrev tr16 : List (Fin 28) := 3 :: tr17
abbrev tr15 : List (Fin 28) := 16 :: tr16
abbrev tr14 : List (Fin 28) := 15 :: tr15
abbrev tr13 : List (Fin 28) := 9 :: tr14
abbrev tr12 : List (Fin 28) := 8 :: tr13
abbrev tr11 : List (Fin 28) := 2 :: tr12
abbrev tr10 : List (Fin 28) := 1 :: tr11
abbrev tr9 : List (Fin 28) := 27 :: tr10
abbrev tr8 : List (Fin 28) := 26 :: tr9
abbrev tr7 : List (Fin 28) := 25 :: tr8
abbrev tr6 : List (Fin 28) := 24 :: tr7
abbrev tr5 : List (Fin 28) := 23 :: tr6
abbrev tr4 : List (Fin 28) := 22 :: tr5
abbrev tr3 : List (Fin 28) := 21 :: tr4
abbrev tr2 : List (Fin 28) := 14 :: tr3
abbrev tr1 : List (Fin 28) := 7 :: tr2
abbrev tr0 : List (Fin 28) := 0 :: tr1
abbrev wr28 : List (Fin 28) := []
abbrev wr27 : List (Fin 28) := 20 :: wr28
abbrev wr26 : List (Fin 28) := 19 :: wr27
abbrev wr25 : List (Fin 28) := 18 :: wr26
abbrev wr24 : List (Fin 28) := 17 :: wr25
abbrev wr23 : List (Fin 28) := 13 :: wr24
abbrev wr22 : List (Fin 28) := 12 :: wr23
abbrev wr21 : List (Fin 28) := 11 :: wr22
abbrev wr20 : List (Fin 28) := 10 :: wr21
abbrev wr19 : List (Fin 28) := 27 :: wr20
abbrev wr18 : List (Fin 28) := 6 :: wr19
abbrev wr17 : List (Fin 28) := 5 :: wr18
abbrev wr16 : List (Fin 28) := 4 :: wr17
abbrev wr15 : List (Fin 28) := 3 :: wr16
abbrev wr14 : List (Fin 28) := 25 :: wr15
abbrev wr13 : List (Fin 28) := 16 :: wr14
abbrev wr12 : List (Fin 28) := 15 :: wr13
abbrev wr11 : List (Fin 28) := 26 :: wr12
abbrev wr10 : List (Fin 28) := 9 :: wr11
abbrev wr9 : List (Fin 28) := 8 :: wr10
abbrev wr8 : List (Fin 28) := 23 :: wr9
abbrev wr7 : List (Fin 28) := 2 :: wr8
abbrev wr6 : List (Fin 28) := 1 :: wr7
abbrev wr5 : List (Fin 28) := 24 :: wr6
abbrev wr4 : List (Fin 28) := 14 :: wr5
abbrev wr3 : List (Fin 28) := 22 :: wr4
abbrev wr2 : List (Fin 28) := 7 :: wr3
abbrev wr1 : List (Fin 28) := 21 :: wr2
abbrev wr0 : List (Fin 28) := 0 :: wr1
abbrev dr28 : List (Fin 28) := []
abbrev dr27 : List (Fin 28) := 27 :: dr28
abbrev dr26 : List (Fin 28) := 26 :: dr27
abbrev dr25 : List (Fin 28) := 25 :: dr26
abbrev dr24 : List (Fin 28) := 24 :: dr25
abbrev dr23 : List (Fin 28) := 23 :: dr24
abbrev dr22 : List (Fin 28) := 22 :: dr23
abbrev dr21 : List (Fin 28) := 21 :: dr22
abbrev dr20 : List (Fin 28) := 20 :: dr21
abbrev dr19 : List (Fin 28) := 19 :: dr20
abbrev dr18 : List (Fin 28) := 18 :: dr19
abbrev dr17 : List (Fin 28) := 17 :: dr18
abbrev dr16 : List (Fin 28) := 13 :: dr17
abbrev dr15 : List (Fin 28) := 12 :: dr16
abbrev dr14 : List (Fin 28) := 11 :: dr15
abbrev dr13 : List (Fin 28) := 10 :: dr14
abbrev dr12 : List (Fin 28) := 6 :: dr13
abbrev dr11 : List (Fin 28) := 5 :: dr12
abbrev dr10 : List (Fin 28) := 4 :: dr11
abbrev dr9 : List (Fin 28) := 3 :: dr10
abbrev dr8 : List (Fin 28) := 16 :: dr9
abbrev dr7 : List (Fin 28) := 15 :: dr8
abbrev dr6 : List (Fin 28) := 9 :: dr7
abbrev dr5 : List (Fin 28) := 8 :: dr6
abbrev dr4 : List (Fin 28) := 2 :: dr5
abbrev dr3 : List (Fin 28) := 1 :: dr4
abbrev dr2 : List (Fin 28) := 14 :: dr3
abbrev dr1 : List (Fin 28) := 7 :: dr2
abbrev dr0 : List (Fin 28) := 0 :: dr1
abbrev sg7 : List (Fin 8) := []
abbrev sg6 : List (Fin 8) := 6 :: sg7
abbrev sg5 : List (Fin 8) := 7 :: sg6
abbrev sg4 : List (Fin 8) := 5 :: sg5
abbrev sg3 : List (Fin 8) := 4 :: sg4
abbrev sg2 : List (Fin 8) := 2 :: sg3
abbrev sg1 : List (Fin 8) := 3 :: sg2
abbrev sg0 : List (Fin 8) := 1 :: sg1
abbrev ob35 : List Ob := []
abbrev ob34 : List Ob := .tr 20 :: ob35
abbrev ob33 : List Ob := .tr 19 :: ob34
abbrev ob32 : List Ob := .tr 18 :: ob33
abbrev ob31 : List Ob := .tr 17 :: ob32
abbrev ob30 : List Ob := .tr 13 :: ob31
abbrev ob29 : List Ob := .tr 12 :: ob30
abbrev ob28 : List Ob := .tr 11 :: ob29
abbrev ob27 : List Ob := .tr 10 :: ob28
abbrev ob26 : List Ob := .tr 6 :: ob27
abbrev ob25 : List Ob := .tr 5 :: ob26
abbrev ob24 : List Ob := .tr 4 :: ob25
abbrev ob23 : List Ob := .tr 3 :: ob24
abbrev ob22 : List Ob := .tr 16 :: ob23
abbrev ob21 : List Ob := .tr 15 :: ob22
abbrev ob20 : List Ob := .tr 9 :: ob21
abbrev ob19 : List Ob := .tr 8 :: ob20
abbrev ob18 : List Ob := .tr 2 :: ob19
abbrev ob17 : List Ob := .tr 1 :: ob18
abbrev ob16 : List Ob := .tr 27 :: ob17
abbrev ob15 : List Ob := .tr 26 :: ob16
abbrev ob14 : List Ob := .tr 25 :: ob15
abbrev ob13 : List Ob := .tr 24 :: ob14
abbrev ob12 : List Ob := .tr 23 :: ob13
abbrev ob11 : List Ob := .tr 22 :: ob12
abbrev ob10 : List Ob := .tr 21 :: ob11
abbrev ob9 : List Ob := .tr 14 :: ob10
abbrev ob8 : List Ob := .tr 7 :: ob9
abbrev ob7 : List Ob := .tr 0 :: ob8
abbrev ob6 : List Ob := .bar 6 :: ob7
abbrev ob5 : List Ob := .bar 7 :: ob6
abbrev ob4 : List Ob := .bar 5 :: ob5
abbrev ob3 : List Ob := .bar 4 :: ob4
abbrev ob2 : List Ob := .bar 2 :: ob3
abbrev ob1 : List Ob := .bar 3 :: ob2
abbrev ob0 : List Ob := .bar 1 :: ob1
abbrev cz0 : List (Fin 28) := []
abbrev cz1 : List (Fin 28) := 0 :: cz0
abbrev cz2 : List (Fin 28) := 7 :: cz1
abbrev cz3 : List (Fin 28) := 14 :: cz2
abbrev cz4 : List (Fin 28) := 21 :: cz3
abbrev cz5 : List (Fin 28) := 22 :: cz4
abbrev cz6 : List (Fin 28) := 23 :: cz5
abbrev cz7 : List (Fin 28) := 24 :: cz6
abbrev cz8 : List (Fin 28) := 25 :: cz7
abbrev cz9 : List (Fin 28) := 26 :: cz8
abbrev cz10 : List (Fin 28) := 27 :: cz9
abbrev cz11 : List (Fin 28) := 1 :: cz10
abbrev cz12 : List (Fin 28) := 2 :: cz11
abbrev cz13 : List (Fin 28) := 8 :: cz12
abbrev cz14 : List (Fin 28) := 9 :: cz13
abbrev cz15 : List (Fin 28) := 15 :: cz14
abbrev cz16 : List (Fin 28) := 16 :: cz15
abbrev cz17 : List (Fin 28) := 3 :: cz16
abbrev cz18 : List (Fin 28) := 4 :: cz17
abbrev cz19 : List (Fin 28) := 5 :: cz18
abbrev cz20 : List (Fin 28) := 6 :: cz19
abbrev cz21 : List (Fin 28) := 10 :: cz20
abbrev cz22 : List (Fin 28) := 11 :: cz21
abbrev cz23 : List (Fin 28) := 12 :: cz22
abbrev cz24 : List (Fin 28) := 13 :: cz23
abbrev cz25 : List (Fin 28) := 17 :: cz24
abbrev cz26 : List (Fin 28) := 18 :: cz25
abbrev cz27 : List (Fin 28) := 19 :: cz26
abbrev cz28 : List (Fin 28) := 20 :: cz27
abbrev rz0 : List (Fin 28) := []
abbrev rz1 : List (Fin 28) := 0 :: rz0
abbrev rz2 : List (Fin 28) := 21 :: rz1
abbrev rz3 : List (Fin 28) := 7 :: rz2
abbrev rz4 : List (Fin 28) := 22 :: rz3
abbrev rz5 : List (Fin 28) := 14 :: rz4
abbrev rz6 : List (Fin 28) := 24 :: rz5
abbrev rz7 : List (Fin 28) := 1 :: rz6
abbrev rz8 : List (Fin 28) := 2 :: rz7
abbrev rz9 : List (Fin 28) := 23 :: rz8
abbrev rz10 : List (Fin 28) := 8 :: rz9
abbrev rz11 : List (Fin 28) := 9 :: rz10
abbrev rz12 : List (Fin 28) := 26 :: rz11
abbrev rz13 : List (Fin 28) := 15 :: rz12
abbrev rz14 : List (Fin 28) := 16 :: rz13
abbrev rz15 : List (Fin 28) := 25 :: rz14
abbrev rz16 : List (Fin 28) := 3 :: rz15
abbrev rz17 : List (Fin 28) := 4 :: rz16
abbrev rz18 : List (Fin 28) := 5 :: rz17
abbrev rz19 : List (Fin 28) := 6 :: rz18
abbrev rz20 : List (Fin 28) := 27 :: rz19
abbrev rz21 : List (Fin 28) := 10 :: rz20
abbrev rz22 : List (Fin 28) := 11 :: rz21
abbrev rz23 : List (Fin 28) := 12 :: rz22
abbrev rz24 : List (Fin 28) := 13 :: rz23
abbrev rz25 : List (Fin 28) := 17 :: rz24
abbrev rz26 : List (Fin 28) := 18 :: rz25
abbrev rz27 : List (Fin 28) := 19 :: rz26
abbrev rz28 : List (Fin 28) := 20 :: rz27
abbrev dz0 : List (Fin 28) := []
abbrev dz1 : List (Fin 28) := 0 :: dz0
abbrev dz2 : List (Fin 28) := 7 :: dz1
abbrev dz3 : List (Fin 28) := 14 :: dz2
abbrev dz4 : List (Fin 28) := 1 :: dz3
abbrev dz5 : List (Fin 28) := 2 :: dz4
abbrev dz6 : List (Fin 28) := 8 :: dz5
abbrev dz7 : List (Fin 28) := 9 :: dz6
abbrev dz8 : List (Fin 28) := 15 :: dz7
abbrev dz9 : List (Fin 28) := 16 :: dz8
abbrev dz10 : List (Fin 28) := 3 :: dz9
abbrev dz11 : List (Fin 28) := 4 :: dz10
abbrev dz12 : List (Fin 28) := 5 :: dz11
abbrev dz13 : List (Fin 28) := 6 :: dz12
abbrev dz14 : List (Fin 28) := 10 :: dz13
abbrev dz15 : List (Fin 28) := 11 :: dz14
abbrev dz16 : List (Fin 28) := 12 :: dz15
abbrev dz17 : List (Fin 28) := 13 :: dz16
abbrev dz18 : List (Fin 28) := 17 :: dz17
abbrev dz19 : List (Fin 28) := 18 :: dz18
abbrev dz20 : List (Fin 28) := 19 :: dz19
abbrev dz21 : List (Fin 28) := 20 :: dz20
abbrev dz22 : List (Fin 28) := 21 :: dz21
abbrev dz23 : List (Fin 28) := 22 :: dz22
abbrev dz24 : List (Fin 28) := 23 :: dz23
abbrev dz25 : List (Fin 28) := 24 :: dz24
abbrev dz26 : List (Fin 28) := 25 :: dz25
abbrev dz27 : List (Fin 28) := 26 :: dz26
abbrev dz28 : List (Fin 28) := 27 :: dz27

theorem lst_perm {ι : Type} [DecidableEq ι] (f : ι → sProp 𝕄) {l l' : List ι} (h : l.Nodup) (h' : l'.Nodup) (e : l.toFinset = l'.toFinset) : lst f l = lst f l' := by
  rw [lst_eq f l h, lst_eq f l' h', e]

/-- The departures are waited for in another order than the copies were issued. -/
theorem Cr_order : Cr (F := F) c cz28 ⊢ Cr c dr0 := Entails.of_eq (lst_perm _ (by decide +kernel) (by decide +kernel) (by decide +kernel))

theorem tm_sets : (Finset.univ : Finset (Fin 8)).erase 0 = (sg0).toFinset ∧ (tr0).toFinset = Finset.univ := by decide +kernel

/-- The slots handed over at the barrier are the ones the device's own transfers land in. -/
theorem free_of_bar : bigSep ((Finset.univ : Finset (Fin 8)).erase 0) (barP (F := F) c) = Fr c tr0 := by
  unfold Fr
  rw [lst_eq _ _ (by decide +kernel), tm_sets.2]
  rw [bigSep_fiberwise Finset.univ tm, show (Finset.univ : Finset (Fin 28)).image tm = (Finset.univ : Finset (Fin 8)).erase 0 by decide +kernel]
  refine bigSep_congr fun e _ => ?_
  unfold barP
  refine bigSep_congr fun i hi => ?_
  rw [(Finset.mem_filter.mp hi).2]

/-! ## The accumulators as one array -/

/-- The array whose three column parts are given. -/
def fin3 (a0 a1 : S512x2688.Idx → Elt F .f32) (a2 : S512x2816.Idx → Elt F .f32) : S512x8192.Idx → Elt F .f32 := fun i =>
  if h : (i 1).val < 2688 then a0 (ix2 (i 0) ⟨(i 1).val, h⟩)
  else if h' : (i 1).val < 5376 then a1 (ix2 (i 0) ⟨(i 1).val - 2688, by omega⟩)
  else a2 (ix2 (i 0) ⟨(i 1).val - 5376, by have : (i 1).val < 8192 := (i 1).isLt; omega⟩)

theorem fin3_rd (f : S512x8192.Idx → Elt F .f32) : fin3 (rd0 f) (rd1 f) (rd2 f) = f := by
  funext i
  unfold fin3
  split
  · rename_i h
    refine congrArg f (funext fun d => Fin.ext ?_)
    fin_cases d
    · show 0 + 1 * (i 0).val = (i 0).val; omega
    · show 0 + 1 * (i 1).val = (i 1).val; omega
  · rename_i h
    split
    · rename_i h'
      refine congrArg f (funext fun d => Fin.ext ?_)
      fin_cases d
      · show 0 + 1 * (i 0).val = (i 0).val; omega
      · show 2688 + 1 * ((i 1).val - 2688) = (i 1).val; omega
    · rename_i h'
      refine congrArg f (funext fun d => Fin.ext ?_)
      fin_cases d
      · show 0 + 1 * (i 0).val = (i 0).val; omega
      · show 5376 + 1 * ((i 1).val - 5376) = (i 1).val; omega

theorem ep_zero (f : S512x8192.Idx → Elt F .f32) (s : F .f32) : ep f s 0 = f := by
  funext i; exact if_neg (by omega)

theorem out_ep (a0 a1 : S512x2688.Idx → Elt F .f32) (a2 : S512x2816.Idx → Elt F .f32) (s : F .f32) :
    outP c a0 a1 a2 ⊢ epP c (ep (fin3 a0 a1 a2) s 0) := by
  unfold outP epP
  iintro ⟨%f, %h, H⟩
  obtain ⟨rfl, rfl, rfl⟩ := h
  rw [fin3_rd, ep_zero]
  iexact H

theorem out_intro (f : S512x8192.Idx → Elt F .f32) : epP c f ⊢ outP c (rd0 f) (rd1 f) (rd2 f) := by
  unfold outP epP
  iintro H
  iexists f
  isplitr
  · ipureintro; exact ⟨rfl, rfl, rfl⟩
  · iexact H

theorem ret_step {α : Type} {Q : α → sProp 𝕄} (a : α) : Q a ⊢ WP c (.ret a) Q := by
  unfold WP
  rw [wp_ret]
  iintro H
  imodintro
  iexact H

/-- The memref that the waits for the departures of the row blocks name. -/
abbrev rowZ : Memref sig .tc .vmem S512x512 .fp8e4m3 :=
  (Memref.whole cc0_stg0_0).slice (Rect.unit (s := S4096x512) ![0, 0] S512x512.size inb_S4096x512_S512x512_0_0) (fun _ => rfl)

/-- The one entry of a scale. -/
abbrev e1 : S1.Idx := Shape.Idx.first (numel1_S1.symm ▸ Nat.one_pos)

end Cert.KernelIdeal.Pf

end
-- ==== Proof.Ideal.PartsA.lean ====
/-
  The body, parts 1 to 11: the barrier, the first copies and the first products.
-/
module

public import proofs.«01_k».proof.Proof.Ideal.Order

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

variable (K : Dev nD × Fin 57 → ℕ) {a0 a1 : S512x2688.Idx → Elt F .f32} {a2 : S512x2816.Idx → Elt F .f32} {s2 s3 : S1.Idx → Elt F .f32}

theorem part1 {Q : (Σ' (d0 : Dev nD) (v2 : BitVec 32) (v3 : BitVec 32) (v4 : BitVec 32) (v5 : BitVec 32), Sems sig S_) → sProp 𝕄} :
    iprop(env X Wt K ∗ Bk c sg0 ∗ ow c ob0)
      ⊢ iprop((Bk c sg5 ∗ ow c ob5 -∗ Q ⟨c, (Scalar.remsi (Scalar.divsi (Dev.word c) 1#32) 8#32), Scalar.xori (Scalar.remsi (Scalar.divsi (Dev.word c) 1#32) 8#32) 1#32, Scalar.xori (Scalar.remsi (Scalar.divsi (Dev.word c) 1#32) 8#32) 3#32, Scalar.xori (Scalar.remsi (Scalar.divsi (Dev.word c) 1#32) 8#32) 4#32, SemArray.scalar (sig.barrier 0 rfl)⟩)
          -∗ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part1_eq_skeleton]
  unfold k0_part1_skel
  simp only [Prog.lift, Prog.bind_op, Prog.bind_ret, Prog.pure_eq_ret, Prog.bind_assoc, semSignalWord, semWaitWord, smemLoad, smemLoadElt, wp_deviceId]
  iintro ⟨#E, SG, O⟩ Kc
  iapply (signal_step X Wt K c 1 (dev1_eq c) (by decide)) $$ [SG O]
  · iframe E SG O
  iintro ⟨SG, O⟩
  iapply (signal_step X Wt K c 3 (dev2_eq c) (by decide)) $$ [SG O]
  · iframe E SG O
  iintro ⟨SG, O⟩
  iapply (signal_step X Wt K c 2 (dev3_eq c) (by decide)) $$ [SG O]
  · iframe E SG O
  iintro ⟨SG, O⟩
  iapply (signal_step X Wt K c 4 (dev4_eq c) (by decide)) $$ [SG O]
  · iframe E SG O
  iintro ⟨SG, O⟩
  iapply (signal_step X Wt K c 5 (dev5_eq c) (by decide)) $$ [SG O]
  · iframe E SG O
  iintro ⟨SG, O⟩
  iapply (ret_step c _)
  iapply Kc
  iframe SG O

theorem part2 {v2 : BitVec 32} {v3 : BitVec 32} {v4 : BitVec 32} {v5 : BitVec 32} {Q : (PUnit) → sProp 𝕄} :
    iprop(env X Wt K ∗ Bk c sg5 ∗ ow c ob5 ∗ atPos ER (barCell c) 0 ∅ 0 ∗ cred (tallyAt (barCell c) () 7) ∗ colP0 Wt c (kp 0) ∗ Tk c tr0 ∗ Cr c cz0 ∗ colP1 Wt c (kp 0))
      ⊢ iprop((Bk c sg7 ∗ ow c ob9 ∗ colP0 Wt c (kp 1) ∗ Tk c tr2 ∗ Cr c cz2 ∗ colP1 Wt c (kp 1) ∗ semVal (barCell c) 0 ∗ Fr c tr2 -∗ Q ⟨⟩)
          -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v3 v4 v5 (SemArray.scalar (sig.barrier 0 rfl))) Q) := by
  rw [k0_part2_eq_skeleton]
  unfold k0_part2_skel
  simp only [Prog.lift, Prog.bind_op, Prog.bind_ret, Prog.pure_eq_ret, Prog.bind_assoc, semSignalWord, semWaitWord, smemLoad, smemLoadElt, wp_deviceId]
  iintro ⟨#E, SG, O, BP, BC, C0, T, CR, C1⟩ Kc
  iapply (signal_step X Wt K c 7 (dev6_eq c) (by decide)) $$ [SG O]
  · iframe E SG O
  iintro ⟨SG, O⟩
  iapply (signal_step X Wt K c 6 (dev7_eq c) (by decide)) $$ [SG O]
  · iframe E SG O
  iintro ⟨SG, O⟩
  iapply (bar_wait X Wt K c (lo := ob7) (by decide +kernel)) $$ [BP BC O]
  · iframe E BP BC O
  iintro ⟨BV, O, FR⟩
  ihave FR := (Entails.of_eq (free_of_bar c)) $$ FR
  iapply (send_col0 X Wt K c 0 0 rfl rfl rfl 0 rfl (dev8_eq c) rfl rfl) $$ [C0 T FR O CR]
  · iframe E C0 T FR O CR
  iintro ⟨C0, T, FR, O, CR⟩
  iapply (send_col1 X Wt K c 7 0 rfl rfl rfl 1 rfl (dev9_eq c) rfl rfl) $$ [C1 T FR O CR]
  · iframe E C1 T FR O CR
  iintro ⟨C1, T, FR, O, CR⟩
  iapply (ret_step c _)
  iapply Kc
  iframe SG O C0 T CR C1 BV FR

theorem part3 {v2 : BitVec 32} {Q : (BitVec 32) → sProp 𝕄} :
    iprop(env X Wt K ∗ colP2 Wt c (kp 0) ∗ Tk c tr2 ∗ Fr c tr2 ∗ ow c ob9 ∗ Cr c cz2 ∗ rowP X c 0 (kp 0) ∗ rowP X c 2 (kp 0))
      ⊢ iprop((colP2 Wt c (kp 1) ∗ Tk c tr5 ∗ Fr c tr5 ∗ ow c ob12 ∗ Cr c cz5 ∗ rowP X c 0 (kp 1) ∗ rowP X c 2 (kp 1) -∗ Q (Scalar.xori v2 2#32))
          -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q) := by
  rw [k0_part3_eq_skeleton]
  unfold k0_part3_skel
  simp only [Prog.lift, Prog.bind_op, Prog.bind_ret, Prog.pure_eq_ret, Prog.bind_assoc, semSignalWord, semWaitWord, smemLoad, smemLoadElt, wp_deviceId]
  iintro ⟨#E, C2, T, FR, O, CR, R0, R2⟩ Kc
  iapply (send_col2 X Wt K c 14 0 rfl rfl rfl 3 rfl (dev10_eq c) rfl rfl) $$ [C2 T FR O CR]
  · iframe E C2 T FR O CR
  iintro ⟨C2, T, FR, O, CR⟩
  iapply (send_row X Wt K c 21 0 0 rfl rfl rfl 0 rfl (dev11_eq c) rfl rfl) $$ [R0 T FR O CR]
  · iframe E R0 T FR O CR
  iintro ⟨R0, T, FR, O, CR⟩
  iapply (send_row X Wt K c 22 0 2 rfl rfl rfl 1 rfl (dev12_eq c) rfl rfl) $$ [R2 T FR O CR]
  · iframe E R2 T FR O CR
  iintro ⟨R2, T, FR, O, CR⟩
  iapply (ret_step c _)
  iapply Kc
  iframe C2 T FR O CR R0 R2

theorem part4 {v2 : BitVec 32} {v77 : BitVec 32} {Q : (BitVec 32) → sProp 𝕄} :
    iprop(env X Wt K ∗ rowP X c 1 (kp 0) ∗ Tk c tr5 ∗ Fr c tr5 ∗ ow c ob12 ∗ Cr c cz5 ∗ rowP X c 3 (kp 0) ∗ rowP X c 4 (kp 0))
      ⊢ iprop((rowP X c 1 (kp 1) ∗ Tk c tr8 ∗ Fr c tr8 ∗ ow c ob15 ∗ Cr c cz8 ∗ rowP X c 3 (kp 1) ∗ rowP X c 4 (kp 1) -∗ Q 7#32)
          -∗ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v77) Q) := by
  rw [k0_part4_eq_skeleton]
  unfold k0_part4_skel
  simp only [Prog.lift, Prog.bind_op, Prog.bind_ret, Prog.pure_eq_ret, Prog.bind_assoc, semSignalWord, semWaitWord, smemLoad, smemLoadElt, wp_deviceId]
  iintro ⟨#E, R1, T, FR, O, CR, R3, R4⟩ Kc
  iapply (send_row X Wt K c 23 0 1 rfl rfl rfl 2 rfl (dev13_eq c) rfl rfl) $$ [R1 T FR O CR]
  · iframe E R1 T FR O CR
  iintro ⟨R1, T, FR, O, CR⟩
  iapply (send_row X Wt K c 24 0 3 rfl rfl rfl 3 rfl (dev14_eq c) rfl rfl) $$ [R3 T FR O CR]
  · iframe E R3 T FR O CR
  iintro ⟨R3, T, FR, O, CR⟩
  iapply (send_row X Wt K c 25 0 4 rfl rfl rfl 4 rfl (dev15_eq c) rfl rfl) $$ [R4 T FR O CR]
  · iframe E R4 T FR O CR
  iintro ⟨R4, T, FR, O, CR⟩
  iapply (ret_step c _)
  iapply Kc
  iframe R1 T FR O CR R3 R4

theorem part5 {v2 : BitVec 32} {c7_i32_98 : BitVec 32} {Q : (FVec F S512x512 .fp8e4m3) → sProp 𝕄} :
    iprop(env X Wt K ∗ rowP X c 6 (kp 0) ∗ Tk c tr8 ∗ Fr c tr8 ∗ ow c ob15 ∗ Cr c cz8 ∗ rowP X c 5 (kp 0) ∗ ownP X c (kp 0) ∗ colP0 Wt c (kp 1) ∗ outP c a0 a1 a2)
      ⊢ iprop((rowP X c 6 (kp 1) ∗ Tk c tr10 ∗ Fr c tr10 ∗ ow c ob17 ∗ Cr c cz10 ∗ rowP X c 5 (kp 1) ∗ ownP X c (kp 0) ∗ colP0 Wt c (kp 1) ∗ outP c (acc0 X Wt c []) a1 a2 -∗ Q (k0_pay1 (xo X c)))
          -∗ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c7_i32_98) Q) := by
  rw [k0_part5_eq_skeleton]
  unfold k0_part5_skel
  simp only [Prog.lift, Prog.bind_op, Prog.bind_ret, Prog.pure_eq_ret, Prog.bind_assoc, semSignalWord, semWaitWord, smemLoad, smemLoadElt, wp_deviceId]
  iintro ⟨#E, R6, T, FR, O, CR, R5, OW, C0, OUT⟩ Kc
  iapply (send_row X Wt K c 26 0 6 rfl rfl rfl 5 rfl (dev16_eq c) rfl rfl) $$ [R6 T FR O CR]
  · iframe E R6 T FR O CR
  iintro ⟨R6, T, FR, O, CR⟩
  iapply (send_row X Wt K c 27 0 5 rfl rfl rfl 6 rfl (dev17_eq c) rfl rfl) $$ [R5 T FR O CR]
  · iframe E R5 T FR O CR
  iintro ⟨R5, T, FR, O, CR⟩
  iapply (load_own X c _) $$ OW
  iintro OW
  iapply (load_col0 Wt c _) $$ C0
  iintro C0
  iapply (load_out0 c _ _ _) $$ OUT
  iintro OUT
  iapply (store_out0 c _ _ _ _ (w' := (acc0 X Wt c [])) rfl) $$ OUT
  iintro OUT
  iapply (ret_step c _)
  iapply Kc
  iframe R6 T FR O CR R5 OW C0 OUT

theorem part6 {v3 : BitVec 32} {v4 : BitVec 32} {Q : (BitVec 32) → sProp 𝕄} :
    iprop(env X Wt K ∗ colP1 Wt c (kp 1) ∗ outP c (acc0 X Wt c []) a1 a2 ∗ colP2 Wt c (kp 1) ∗ Wr c wr0 ∗ ow c ob17 ∗ Zr c rz0 ∗ colP0 Wt c (kp 1) ∗ Tk c tr10 ∗ Fr c tr10 ∗ Cr c cz10)
      ⊢ iprop((colP1 Wt c (kp 1) ∗ outP c (acc0 X Wt c []) (acc1 X Wt c []) (acc2 X Wt c []) ∗ colP2 Wt c (kp 1) ∗ Wr c wr1 ∗ ow c ob18 ∗ Zr c rz1 ∗ colP0 Wt c (kp 2) ∗ Tk c tr11 ∗ Fr c tr11 ∗ Cr c cz11 ∗ slotP0 Wt c 0 (kp 0) -∗ Q 1#32)
          -∗ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (k0_pay1 (xo X c))) Q) := by
  rw [k0_part6_eq_skeleton]
  unfold k0_part6_skel
  simp only [Prog.lift, Prog.bind_op, Prog.bind_ret, Prog.pure_eq_ret, Prog.bind_assoc, semSignalWord, semWaitWord, smemLoad, smemLoadElt, wp_deviceId]
  iintro ⟨#E, C1, OUT, C2, W, O, Z, C0, T, FR, CR⟩ Kc
  iapply (load_col1 Wt c _) $$ C1
  iintro C1
  iapply (load_out1 c _ _ _) $$ OUT
  iintro OUT
  iapply (store_out1 c _ _ _ _ (w' := (acc1 X Wt c [])) rfl) $$ OUT
  iintro OUT
  iapply (load_col2 Wt c _) $$ C2
  iintro C2
  iapply (load_out2 c _ _ _) $$ OUT
  iintro OUT
  iapply (store_out2 c _ _ _ _ (w' := (acc2 X Wt c [])) rfl) $$ OUT
  iintro OUT
  have h0 : ∀ o ∈ ob17, 2 + stp 0 < obLv o := by decide +kernel
  iapply (recv0 X Wt c K 0 0 rfl rfl (b := slotM0 0) rfl rfl h0) $$ [W O Z]
  · iframe E W O Z
  iintro ⟨W, O, Z, S00⟩
  iapply (send_col0 X Wt K c 1 1 rfl rfl rfl 1 rfl (dev18_eq c) rfl rfl) $$ [C0 T FR O CR]
  · iframe E C0 T FR O CR
  iintro ⟨C0, T, FR, O, CR⟩
  iapply (ret_step c _)
  iapply Kc
  iframe C1 OUT C2 W O Z C0 T FR CR S00

theorem part7 {v3 : BitVec 32} {v4 : BitVec 32} {c1_i32_153 : BitVec 32} {Q : (BitVec 32) → sProp 𝕄} :
    iprop(env X Wt K ∗ slotP0 Wt c 0 (kp 0) ∗ Tk c tr11 ∗ Fr c tr11 ∗ ow c ob18 ∗ Cr c cz11 ∗ Wr c wr1 ∗ Zr c rz1 ∗ outP c (acc0 X Wt c []) (acc1 X Wt c []) (acc2 X Wt c []))
      ⊢ iprop((slotP0 Wt c 0 (kp 1) ∗ Tk c tr12 ∗ Fr c tr12 ∗ ow c ob19 ∗ Cr c cz12 ∗ Wr c wr2 ∗ Zr c rz2 ∗ outP c (acc0 X Wt c [0]) (acc1 X Wt c []) (acc2 X Wt c []) ∗ slotP3 X c 0 (kp 0) -∗ Q 1#32)
          -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 c1_i32_153) Q) := by
  rw [k0_part7_eq_skeleton]
  unfold k0_part7_skel
  simp only [Prog.lift, Prog.bind_op, Prog.bind_ret, Prog.pure_eq_ret, Prog.bind_assoc, semSignalWord, semWaitWord, smemLoad, smemLoadElt, wp_deviceId]
  iintro ⟨#E, S00, T, FR, O, CR, W, Z, OUT⟩ Kc
  iapply (send_slot0 X Wt K c 2 0 0 rfl rfl rfl 2 rfl (dev19_eq c) rfl rfl) $$ [S00 T FR O CR]
  · iframe E S00 T FR O CR
  iintro ⟨S00, T, FR, O, CR⟩
  have h21 : ∀ o ∈ ob19, 2 + stp 21 < obLv o := by decide +kernel
  iapply (recv3 X Wt c K 21 0 rfl rfl (b := slotM3 0) rfl rfl h21) $$ [W O Z]
  · iframe E W O Z
  iintro ⟨W, O, Z, S30⟩
  iapply (load_out0 c _ _ _) $$ OUT
  iintro OUT
  iapply (load_slot3 X c 0 _) $$ S30
  iintro S30
  iapply (load_slot0 Wt c 0 _) $$ S00
  iintro S00
  iapply (load_out0 c _ _ _) $$ OUT
  iintro OUT
  iapply (store_out0 c _ _ _ _ (w' := (acc0 X Wt c [0])) rfl) $$ OUT
  iintro OUT
  iapply (ret_step c _)
  iapply Kc
  iframe S00 T FR O CR W Z OUT S30

theorem part8 {v4 : BitVec 32} {v5 : BitVec 32} {c1_i32_183 : BitVec 32} {Q : (Σ' (v217 : BitVec 32), BitVec 32) → sProp 𝕄} :
    iprop(env X Wt K ∗ Wr c wr2 ∗ ow c ob19 ∗ Zr c rz2 ∗ colP1 Wt c (kp 1) ∗ Tk c tr12 ∗ Fr c tr12 ∗ Cr c cz12)
      ⊢ iprop((Wr c wr3 ∗ ow c ob21 ∗ Zr c rz3 ∗ colP1 Wt c (kp 2) ∗ Tk c tr14 ∗ Fr c tr14 ∗ Cr c cz14 ∗ slotP1 Wt c 1 (kp 1) -∗ Q ⟨Scalar.muli v4 1#32, 0#32⟩)
          -∗ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 v5 c1_i32_183) Q) := by
  rw [k0_part8_eq_skeleton]
  unfold k0_part8_skel
  simp only [Prog.lift, Prog.bind_op, Prog.bind_ret, Prog.pure_eq_ret, Prog.bind_assoc, semSignalWord, semWaitWord, smemLoad, smemLoadElt, wp_deviceId]
  iintro ⟨#E, W, O, Z, C1, T, FR, CR⟩ Kc
  have h7 : ∀ o ∈ ob19, 2 + stp 7 < obLv o := by decide +kernel
  iapply (recv1 X Wt c K 7 1 rfl rfl (b := slotM1 1) rfl rfl h7) $$ [W O Z]
  · iframe E W O Z
  iintro ⟨W, O, Z, S11⟩
  iapply (send_col1 X Wt K c 8 1 rfl rfl rfl 3 rfl (dev20_eq c) rfl rfl) $$ [C1 T FR O CR]
  · iframe E C1 T FR O CR
  iintro ⟨C1, T, FR, O, CR⟩
  iapply (send_slot1 X Wt K c 9 0 1 rfl rfl rfl 5 rfl (dev21_eq c) rfl rfl) $$ [S11 T FR O CR]
  · iframe E S11 T FR O CR
  iintro ⟨S11, T, FR, O, CR⟩
  iapply (ret_step c _)
  iapply Kc
  iframe W O Z C1 T FR CR S11

theorem part9 {v3 : BitVec 32} {v5 : BitVec 32} {v217 : BitVec 32} {c0_i32_212 : BitVec 32} {Q : (PUnit) → sProp 𝕄} :
    iprop(env X Wt K ∗ Wr c wr3 ∗ ow c ob21 ∗ Zr c rz3 ∗ outP c (acc0 X Wt c [0]) (acc1 X Wt c []) (acc2 X Wt c []) ∗ slotP1 Wt c 1 (kp 1))
      ⊢ iprop((Wr c wr5 ∗ ow c ob21 ∗ Zr c rz5 ∗ outP c (acc0 X Wt c [0]) (acc1 X Wt c [1]) (acc2 X Wt c []) ∗ slotP1 Wt c 1 (kp 1) ∗ slotP3 X c 1 (kp 0) ∗ slotP2 Wt c 3 (kp 0) -∗ Q ⟨⟩)
          -∗ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3 v5 v217 c0_i32_212) Q) := by
  rw [k0_part9_eq_skeleton]
  unfold k0_part9_skel
  simp only [Prog.lift, Prog.bind_op, Prog.bind_ret, Prog.pure_eq_ret, Prog.bind_assoc, semSignalWord, semWaitWord, smemLoad, smemLoadElt, wp_deviceId]
  iintro ⟨#E, W, O, Z, OUT, S11⟩ Kc
  have h22 : ∀ o ∈ ob21, 2 + stp 22 < obLv o := by decide +kernel
  iapply (recv3 X Wt c K 22 1 rfl rfl (b := slotM3 1) rfl rfl h22) $$ [W O Z]
  · iframe E W O Z
  iintro ⟨W, O, Z, S31⟩
  iapply (load_out1 c _ _ _) $$ OUT
  iintro OUT
  iapply (load_slot3 X c 1 _) $$ S31
  iintro S31
  iapply (load_slot1 Wt c 1 _) $$ S11
  iintro S11
  iapply (load_out1 c _ _ _) $$ OUT
  iintro OUT
  iapply (store_out1 c _ _ _ _ (w' := (acc1 X Wt c [1])) rfl) $$ OUT
  iintro OUT
  have h14 : ∀ o ∈ ob21, 2 + stp 14 < obLv o := by decide +kernel
  iapply (recv2 X Wt c K 14 3 rfl rfl (b := slotM2 3) rfl rfl h14) $$ [W O Z]
  · iframe E W O Z
  iintro ⟨W, O, Z, S23⟩
  iapply (ret_step c _)
  iapply Kc
  iframe W O Z OUT S11 S31 S23

theorem part10 {v3 : BitVec 32} {v5 : BitVec 32} {Q : (Σ' (v269 : FVec F S512x2816 .f32), FVec F S512x512 .fp8e4m3) → sProp 𝕄} :
    iprop(env X Wt K ∗ colP2 Wt c (kp 1) ∗ Tk c tr14 ∗ Fr c tr14 ∗ ow c ob21 ∗ Cr c cz14 ∗ slotP2 Wt c 3 (kp 0) ∗ Wr c wr5 ∗ Zr c rz5 ∗ outP c (acc0 X Wt c [0]) (acc1 X Wt c [1]) (acc2 X Wt c []))
      ⊢ iprop((colP2 Wt c (kp 2) ∗ Tk c tr16 ∗ Fr c tr16 ∗ ow c ob23 ∗ Cr c cz16 ∗ slotP2 Wt c 3 (kp 1) ∗ Wr c wr6 ∗ Zr c rz6 ∗ outP c (acc0 X Wt c [0]) (acc1 X Wt c [1]) (acc2 X Wt c []) ∗ slotP3 X c 3 (kp 0) -∗ Q ⟨k0_pay7 (acc2 X Wt c []), k0_pay8 (xs X c 3)⟩)
          -∗ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v5) Q) := by
  rw [k0_part10_eq_skeleton]
  unfold k0_part10_skel
  simp only [Prog.lift, Prog.bind_op, Prog.bind_ret, Prog.pure_eq_ret, Prog.bind_assoc, semSignalWord, semWaitWord, smemLoad, smemLoadElt, wp_deviceId]
  iintro ⟨#E, C2, T, FR, O, CR, S23, W, Z, OUT⟩ Kc
  iapply (send_col2 X Wt K c 15 1 rfl rfl rfl 0 rfl (dev22_eq c) rfl rfl) $$ [C2 T FR O CR]
  · iframe E C2 T FR O CR
  iintro ⟨C2, T, FR, O, CR⟩
  iapply (send_slot2 X Wt K c 16 0 3 rfl rfl rfl 4 rfl (dev23_eq c) rfl rfl) $$ [S23 T FR O CR]
  · iframe E S23 T FR O CR
  iintro ⟨S23, T, FR, O, CR⟩
  have h24 : ∀ o ∈ ob23, 2 + stp 24 < obLv o := by decide +kernel
  iapply (recv3 X Wt c K 24 3 rfl rfl (b := slotM3 3) rfl rfl h24) $$ [W O Z]
  · iframe E W O Z
  iintro ⟨W, O, Z, S33⟩
  iapply (load_out2 c _ _ _) $$ OUT
  iintro OUT
  iapply (load_slot3 X c 3 _) $$ S33
  iintro S33
  iapply (ret_step c _)
  iapply Kc
  iframe C2 T FR O CR S23 W Z OUT S33

theorem part11 {v4 : BitVec 32} {v5 : BitVec 32} {Q : (PUnit) → sProp 𝕄} :
    iprop(env X Wt K ∗ slotP2 Wt c 3 (kp 1) ∗ outP c (acc0 X Wt c [0]) (acc1 X Wt c [1]) (acc2 X Wt c []) ∗ Wr c wr6 ∗ ow c ob23 ∗ Zr c rz6)
      ⊢ iprop((slotP2 Wt c 3 (kp 1) ∗ outP c (acc0 X Wt c [0]) (acc1 X Wt c [1]) (acc2 X Wt c [3]) ∗ Wr c wr8 ∗ ow c ob23 ∗ Zr c rz8 ∗ slotP0 Wt c 1 (kp 0) ∗ slotP0 Wt c 2 (kp 0) -∗ Q ⟨⟩)
          -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4 v5 (k0_pay7 (acc2 X Wt c [])) (k0_pay8 (xs X c 3))) Q) := by
  rw [k0_part11_eq_skeleton]
  unfold k0_part11_skel
  simp only [Prog.lift, Prog.bind_op, Prog.bind_ret, Prog.pure_eq_ret, Prog.bind_assoc, semSignalWord, semWaitWord, smemLoad, smemLoadElt, wp_deviceId]
  iintro ⟨#E, S23, OUT, W, O, Z⟩ Kc
  iapply (load_slot2 Wt c 3 _) $$ S23
  iintro S23
  iapply (load_out2 c _ _ _) $$ OUT
  iintro OUT
  iapply (store_out2 c _ _ _ _ (w' := (acc2 X Wt c [3])) rfl) $$ OUT
  iintro OUT
  have h1 : ∀ o ∈ ob23, 2 + stp 1 < obLv o := by decide +kernel
  iapply (recv0 X Wt c K 1 1 rfl rfl (b := slotM0 1) rfl rfl h1) $$ [W O Z]
  · iframe E W O Z
  iintro ⟨W, O, Z, S01⟩
  have h2 : ∀ o ∈ ob23, 2 + stp 2 < obLv o := by decide +kernel
  iapply (recv0 X Wt c K 2 2 rfl rfl (b := slotM0 2) rfl rfl h2) $$ [W O Z]
  · iframe E W O Z
  iintro ⟨W, O, Z, S02⟩
  iapply (ret_step c _)
  iapply Kc
  iframe S23 OUT W O Z S01 S02

end Cert.KernelIdeal.Pf

end
-- ==== Proof.Ideal.PartsB.lean ====
/-
  The body, parts 12 to 23: the middle of the exchange.
-/
module

public import proofs.«01_k».proof.Proof.Ideal.Order

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

variable (K : Dev nD × Fin 57 → ℕ) {a0 a1 : S512x2688.Idx → Elt F .f32} {a2 : S512x2816.Idx → Elt F .f32} {s2 s3 : S1.Idx → Elt F .f32}

theorem part12 {v5 : BitVec 32} {Q : (PUnit) → sProp 𝕄} :
    iprop(env X Wt K ∗ colP0 Wt c (kp 2) ∗ Tk c tr16 ∗ Fr c tr16 ∗ ow c ob23 ∗ Cr c cz16 ∗ slotP0 Wt c 0 (kp 1) ∗ slotP0 Wt c 1 (kp 0))
      ⊢ iprop((colP0 Wt c (kp 3) ∗ Tk c tr19 ∗ Fr c tr19 ∗ ow c ob26 ∗ Cr c cz19 ∗ slotP0 Wt c 0 (kp 2) ∗ slotP0 Wt c 1 (kp 1) -∗ Q ⟨⟩)
          -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5) Q) := by
  rw [k0_part12_eq_skeleton]
  unfold k0_part12_skel
  simp only [Prog.lift, Prog.bind_op, Prog.bind_ret, Prog.pure_eq_ret, Prog.bind_assoc, semSignalWord, semWaitWord, smemLoad, smemLoadElt, wp_deviceId]
  iintro ⟨#E, C0, T, FR, O, CR, S00, S01⟩ Kc
  iapply (send_col0 X Wt K c 3 2 rfl rfl rfl 3 rfl (dev24_eq c) rfl rfl) $$ [C0 T FR O CR]
  · iframe E C0 T FR O CR
  iintro ⟨C0, T, FR, O, CR⟩
  iapply (send_slot0 X Wt K c 4 1 0 rfl rfl rfl 4 rfl (dev25_eq c) rfl rfl) $$ [S00 T FR O CR]
  · iframe E S00 T FR O CR
  iintro ⟨S00, T, FR, O, CR⟩
  iapply (send_slot0 X Wt K c 5 0 1 rfl rfl rfl 5 rfl (dev26_eq c) rfl rfl) $$ [S01 T FR O CR]
  · iframe E S01 T FR O CR
  iintro ⟨S01, T, FR, O, CR⟩
  iapply (ret_step c _)
  iapply Kc
  iframe C0 T FR O CR S00 S01

theorem part13 {v4 : BitVec 32} {Q : (Σ' (v349 : FVec F S512x2688 .f32), FVec F S512x512 .fp8e4m3) → sProp 𝕄} :
    iprop(env X Wt K ∗ slotP0 Wt c 2 (kp 0) ∗ Tk c tr19 ∗ Fr c tr19 ∗ ow c ob26 ∗ Cr c cz19 ∗ outP c (acc0 X Wt c [0]) (acc1 X Wt c [1]) (acc2 X Wt c [3]) ∗ slotP3 X c 1 (kp 0) ∗ slotP0 Wt c 1 (kp 1) ∗ Wr c wr8 ∗ Zr c rz8)
      ⊢ iprop((slotP0 Wt c 2 (kp 1) ∗ Tk c tr20 ∗ Fr c tr20 ∗ ow c ob27 ∗ Cr c cz20 ∗ outP c (acc0 X Wt c [1, 0]) (acc1 X Wt c [1]) (acc2 X Wt c [3]) ∗ slotP3 X c 1 (kp 0) ∗ slotP0 Wt c 1 (kp 1) ∗ Wr c wr9 ∗ Zr c rz9 ∗ slotP3 X c 2 (kp 0) -∗ Q ⟨k0_pay11 (acc0 X Wt c [1, 0]), k0_pay12 (xs X c 2)⟩)
          -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4) Q) := by
  rw [k0_part13_eq_skeleton]
  unfold k0_part13_skel
  simp only [Prog.lift, Prog.bind_op, Prog.bind_ret, Prog.pure_eq_ret, Prog.bind_assoc, semSignalWord, semWaitWord, smemLoad, smemLoadElt, wp_deviceId]
  iintro ⟨#E, S02, T, FR, O, CR, OUT, S31, S01, W, Z⟩ Kc
  iapply (send_slot0 X Wt K c 6 0 2 rfl rfl rfl 6 rfl (dev27_eq c) rfl rfl) $$ [S02 T FR O CR]
  · iframe E S02 T FR O CR
  iintro ⟨S02, T, FR, O, CR⟩
  iapply (load_out0 c _ _ _) $$ OUT
  iintro OUT
  iapply (load_slot3 X c 1 _) $$ S31
  iintro S31
  iapply (load_slot0 Wt c 1 _) $$ S01
  iintro S01
  iapply (load_out0 c _ _ _) $$ OUT
  iintro OUT
  iapply (store_out0 c _ _ _ _ (w' := (acc0 X Wt c [1, 0])) rfl) $$ OUT
  iintro OUT
  have h23 : ∀ o ∈ ob27, 2 + stp 23 < obLv o := by decide +kernel
  iapply (recv3 X Wt c K 23 2 rfl rfl (b := slotM3 2) rfl rfl h23) $$ [W O Z]
  · iframe E W O Z
  iintro ⟨W, O, Z, S32⟩
  iapply (load_out0 c _ _ _) $$ OUT
  iintro OUT
  iapply (load_slot3 X c 2 _) $$ S32
  iintro S32
  iapply (ret_step c _)
  iapply Kc
  iframe S02 T FR O CR OUT S31 S01 W Z S32

theorem part14 {v3 : BitVec 32} {v5 : BitVec 32} {Q : (PUnit) → sProp 𝕄} :
    iprop(env X Wt K ∗ slotP0 Wt c 2 (kp 1) ∗ outP c (acc0 X Wt c [1, 0]) (acc1 X Wt c [1]) (acc2 X Wt c [3]) ∗ Wr c wr9 ∗ ow c ob27 ∗ Zr c rz9)
      ⊢ iprop((slotP0 Wt c 2 (kp 1) ∗ outP c (acc0 X Wt c [2, 1, 0]) (acc1 X Wt c [1]) (acc2 X Wt c [3]) ∗ Wr c wr11 ∗ ow c ob27 ∗ Zr c rz11 ∗ slotP1 Wt c 3 (kp 0) ∗ slotP1 Wt c 5 (kp 0) -∗ Q ⟨⟩)
          -∗ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3 v5 (k0_pay11 (acc0 X Wt c [1, 0])) (k0_pay12 (xs X c 2))) Q) := by
  rw [k0_part14_eq_skeleton]
  unfold k0_part14_skel
  simp only [Prog.lift, Prog.bind_op, Prog.bind_ret, Prog.pure_eq_ret, Prog.bind_assoc, semSignalWord, semWaitWord, smemLoad, smemLoadElt, wp_deviceId]
  iintro ⟨#E, S02, OUT, W, O, Z⟩ Kc
  iapply (load_slot0 Wt c 2 _) $$ S02
  iintro S02
  iapply (load_out0 c _ _ _) $$ OUT
  iintro OUT
  iapply (store_out0 c _ _ _ _ (w' := (acc0 X Wt c [2, 1, 0])) rfl) $$ OUT
  iintro OUT
  have h8 : ∀ o ∈ ob27, 2 + stp 8 < obLv o := by decide +kernel
  iapply (recv1 X Wt c K 8 3 rfl rfl (b := slotM1 3) rfl rfl h8) $$ [W O Z]
  · iframe E W O Z
  iintro ⟨W, O, Z, S13⟩
  have h9 : ∀ o ∈ ob27, 2 + stp 9 < obLv o := by decide +kernel
  iapply (recv1 X Wt c K 9 5 rfl rfl (b := slotM1 5) rfl rfl h9) $$ [W O Z]
  · iframe E W O Z
  iintro ⟨W, O, Z, S15⟩
  iapply (ret_step c _)
  iapply Kc
  iframe S02 OUT W O Z S13 S15

theorem part15 {v3 : BitVec 32} {Q : (PUnit) → sProp 𝕄} :
    iprop(env X Wt K ∗ colP1 Wt c (kp 2) ∗ Tk c tr20 ∗ Fr c tr20 ∗ ow c ob27 ∗ Cr c cz20 ∗ slotP1 Wt c 1 (kp 1) ∗ slotP1 Wt c 3 (kp 0))
      ⊢ iprop((colP1 Wt c (kp 3) ∗ Tk c tr23 ∗ Fr c tr23 ∗ ow c ob30 ∗ Cr c cz23 ∗ slotP1 Wt c 1 (kp 2) ∗ slotP1 Wt c 3 (kp 1) -∗ Q ⟨⟩)
          -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3) Q) := by
  rw [k0_part15_eq_skeleton]
  unfold k0_part15_skel
  simp only [Prog.lift, Prog.bind_op, Prog.bind_ret, Prog.pure_eq_ret, Prog.bind_assoc, semSignalWord, semWaitWord, smemLoad, smemLoadElt, wp_deviceId]
  iintro ⟨#E, C1, T, FR, O, CR, S11, S13⟩ Kc
  iapply (send_col1 X Wt K c 10 2 rfl rfl rfl 0 rfl (dev28_eq c) rfl rfl) $$ [C1 T FR O CR]
  · iframe E C1 T FR O CR
  iintro ⟨C1, T, FR, O, CR⟩
  iapply (send_slot1 X Wt K c 11 1 1 rfl rfl rfl 2 rfl (dev29_eq c) rfl rfl) $$ [S11 T FR O CR]
  · iframe E S11 T FR O CR
  iintro ⟨S11, T, FR, O, CR⟩
  iapply (send_slot1 X Wt K c 12 0 3 rfl rfl rfl 4 rfl (dev30_eq c) rfl rfl) $$ [S13 T FR O CR]
  · iframe E S13 T FR O CR
  iintro ⟨S13, T, FR, O, CR⟩
  iapply (ret_step c _)
  iapply Kc
  iframe C1 T FR O CR S11 S13

theorem part16 {v5 : BitVec 32} {Q : (Σ' (v429 : FVec F S512x2688 .f32) (v431 : FVec F S512x512 .fp8e4m3), Vec F S1x512x2688 .fp8e4m3) → sProp 𝕄} :
    iprop(env X Wt K ∗ slotP1 Wt c 5 (kp 0) ∗ Tk c tr23 ∗ Fr c tr23 ∗ ow c ob30 ∗ Cr c cz23 ∗ outP c (acc0 X Wt c [2, 1, 0]) (acc1 X Wt c [1]) (acc2 X Wt c [3]) ∗ slotP3 X c 3 (kp 0) ∗ slotP1 Wt c 3 (kp 1) ∗ Wr c wr11 ∗ Zr c rz11)
      ⊢ iprop((slotP1 Wt c 5 (kp 1) ∗ Tk c tr24 ∗ Fr c tr24 ∗ ow c ob31 ∗ Cr c cz24 ∗ outP c (acc0 X Wt c [2, 1, 0]) (acc1 X Wt c [3, 1]) (acc2 X Wt c [3]) ∗ slotP3 X c 3 (kp 0) ∗ slotP1 Wt c 3 (kp 1) ∗ Wr c wr12 ∗ Zr c rz12 ∗ slotP3 X c 5 (kp 0) -∗ Q ⟨k0_pay15 (acc1 X Wt c [3, 1]), k0_pay16 (xs X c 5), (ws1 Wt c 5)⟩)
          -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5) Q) := by
  rw [k0_part16_eq_skeleton]
  unfold k0_part16_skel
  simp only [Prog.lift, Prog.bind_op, Prog.bind_ret, Prog.pure_eq_ret, Prog.bind_assoc, semSignalWord, semWaitWord, smemLoad, smemLoadElt, wp_deviceId]
  iintro ⟨#E, S15, T, FR, O, CR, OUT, S33, S13, W, Z⟩ Kc
  iapply (send_slot1 X Wt K c 13 0 5 rfl rfl rfl 6 rfl (dev31_eq c) rfl rfl) $$ [S15 T FR O CR]
  · iframe E S15 T FR O CR
  iintro ⟨S15, T, FR, O, CR⟩
  iapply (load_out1 c _ _ _) $$ OUT
  iintro OUT
  iapply (load_slot3 X c 3 _) $$ S33
  iintro S33
  iapply (load_slot1 Wt c 3 _) $$ S13
  iintro S13
  iapply (load_out1 c _ _ _) $$ OUT
  iintro OUT
  iapply (store_out1 c _ _ _ _ (w' := (acc1 X Wt c [3, 1])) rfl) $$ OUT
  iintro OUT
  have h26 : ∀ o ∈ ob31, 2 + stp 26 < obLv o := by decide +kernel
  iapply (recv3 X Wt c K 26 5 rfl rfl (b := slotM3 5) rfl rfl h26) $$ [W O Z]
  · iframe E W O Z
  iintro ⟨W, O, Z, S35⟩
  iapply (load_out1 c _ _ _) $$ OUT
  iintro OUT
  iapply (load_slot3 X c 5 _) $$ S35
  iintro S35
  iapply (load_slot1 Wt c 5 _) $$ S15
  iintro S15
  iapply (ret_step c _)
  iapply Kc
  iframe S15 T FR O CR OUT S33 S13 W Z S35

theorem part17 {v3 : BitVec 32} {v4 : BitVec 32} {Q : (PUnit) → sProp 𝕄} :
    iprop(env X Wt K ∗ outP c (acc0 X Wt c [2, 1, 0]) (acc1 X Wt c [3, 1]) (acc2 X Wt c [3]) ∗ Wr c wr12 ∗ ow c ob31 ∗ Zr c rz12)
      ⊢ iprop((outP c (acc0 X Wt c [2, 1, 0]) (acc1 X Wt c [5, 3, 1]) (acc2 X Wt c [3]) ∗ Wr c wr14 ∗ ow c ob31 ∗ Zr c rz14 ∗ slotP2 Wt c 0 (kp 0) ∗ slotP2 Wt c 4 (kp 0) -∗ Q ⟨⟩)
          -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3 v4 (k0_pay15 (acc1 X Wt c [3, 1])) (k0_pay16 (xs X c 5)) (ws1 Wt c 5)) Q) := by
  rw [k0_part17_eq_skeleton]
  unfold k0_part17_skel
  simp only [Prog.lift, Prog.bind_op, Prog.bind_ret, Prog.pure_eq_ret, Prog.bind_assoc, semSignalWord, semWaitWord, smemLoad, smemLoadElt, wp_deviceId]
  iintro ⟨#E, OUT, W, O, Z⟩ Kc
  iapply (load_out1 c _ _ _) $$ OUT
  iintro OUT
  iapply (store_out1 c _ _ _ _ (w' := (acc1 X Wt c [5, 3, 1])) rfl) $$ OUT
  iintro OUT
  have h15 : ∀ o ∈ ob31, 2 + stp 15 < obLv o := by decide +kernel
  iapply (recv2 X Wt c K 15 0 rfl rfl (b := slotM2 0) rfl rfl h15) $$ [W O Z]
  · iframe E W O Z
  iintro ⟨W, O, Z, S20⟩
  have h16 : ∀ o ∈ ob31, 2 + stp 16 < obLv o := by decide +kernel
  iapply (recv2 X Wt c K 16 4 rfl rfl (b := slotM2 4) rfl rfl h16) $$ [W O Z]
  · iframe E W O Z
  iintro ⟨W, O, Z, S24⟩
  iapply (ret_step c _)
  iapply Kc
  iframe OUT W O Z S20 S24

theorem part18 {v4 : BitVec 32} {Q : (PUnit) → sProp 𝕄} :
    iprop(env X Wt K ∗ colP2 Wt c (kp 2) ∗ Tk c tr24 ∗ Fr c tr24 ∗ ow c ob31 ∗ Cr c cz24 ∗ slotP2 Wt c 3 (kp 1) ∗ slotP2 Wt c 0 (kp 0))
      ⊢ iprop((colP2 Wt c (kp 3) ∗ Tk c tr27 ∗ Fr c tr27 ∗ ow c ob34 ∗ Cr c cz27 ∗ slotP2 Wt c 3 (kp 2) ∗ slotP2 Wt c 0 (kp 1) -∗ Q ⟨⟩)
          -∗ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4) Q) := by
  rw [k0_part18_eq_skeleton]
  unfold k0_part18_skel
  simp only [Prog.lift, Prog.bind_op, Prog.bind_ret, Prog.pure_eq_ret, Prog.bind_assoc, semSignalWord, semWaitWord, smemLoad, smemLoadElt, wp_deviceId]
  iintro ⟨#E, C2, T, FR, O, CR, S23, S20⟩ Kc
  iapply (send_col2 X Wt K c 17 2 rfl rfl rfl 1 rfl (dev32_eq c) rfl rfl) $$ [C2 T FR O CR]
  · iframe E C2 T FR O CR
  iintro ⟨C2, T, FR, O, CR⟩
  iapply (send_slot2 X Wt K c 18 1 3 rfl rfl rfl 5 rfl (dev33_eq c) rfl rfl) $$ [S23 T FR O CR]
  · iframe E S23 T FR O CR
  iintro ⟨S23, T, FR, O, CR⟩
  iapply (send_slot2 X Wt K c 19 0 0 rfl rfl rfl 2 rfl (dev34_eq c) rfl rfl) $$ [S20 T FR O CR]
  · iframe E S20 T FR O CR
  iintro ⟨S20, T, FR, O, CR⟩
  iapply (ret_step c _)
  iapply Kc
  iframe C2 T FR O CR S23 S20

theorem part19 {v3 : BitVec 32} {Q : (Σ' (v509 : FVec F S512x2816 .f32) (v511 : FVec F S512x512 .fp8e4m3), FVec F S512x2816 .fp8e4m3) → sProp 𝕄} :
    iprop(env X Wt K ∗ slotP2 Wt c 4 (kp 0) ∗ Tk c tr27 ∗ Fr c tr27 ∗ ow c ob34 ∗ Cr c cz27 ∗ outP c (acc0 X Wt c [2, 1, 0]) (acc1 X Wt c [5, 3, 1]) (acc2 X Wt c [3]) ∗ slotP3 X c 0 (kp 0) ∗ slotP2 Wt c 0 (kp 1) ∗ Wr c wr14 ∗ Zr c rz14)
      ⊢ iprop((slotP2 Wt c 4 (kp 1) ∗ Tk c tr28 ∗ Fr c tr28 ∗ ow c ob35 ∗ Cr c cz28 ∗ outP c (acc0 X Wt c [2, 1, 0]) (acc1 X Wt c [5, 3, 1]) (acc2 X Wt c [0, 3]) ∗ slotP3 X c 0 (kp 0) ∗ slotP2 Wt c 0 (kp 1) ∗ Wr c wr15 ∗ Zr c rz15 ∗ slotP3 X c 4 (kp 0) -∗ Q ⟨k0_pay19 (acc2 X Wt c [0, 3]), k0_pay20 (xs X c 4), k0_pay21 (ws2 Wt c 4)⟩)
          -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3) Q) := by
  rw [k0_part19_eq_skeleton]
  unfold k0_part19_skel
  simp only [Prog.lift, Prog.bind_op, Prog.bind_ret, Prog.pure_eq_ret, Prog.bind_assoc, semSignalWord, semWaitWord, smemLoad, smemLoadElt, wp_deviceId]
  iintro ⟨#E, S24, T, FR, O, CR, OUT, S30, S20, W, Z⟩ Kc
  iapply (send_slot2 X Wt K c 20 0 4 rfl rfl rfl 6 rfl (dev35_eq c) rfl rfl) $$ [S24 T FR O CR]
  · iframe E S24 T FR O CR
  iintro ⟨S24, T, FR, O, CR⟩
  iapply (load_out2 c _ _ _) $$ OUT
  iintro OUT
  iapply (load_slot3 X c 0 _) $$ S30
  iintro S30
  iapply (load_slot2 Wt c 0 _) $$ S20
  iintro S20
  iapply (load_out2 c _ _ _) $$ OUT
  iintro OUT
  iapply (store_out2 c _ _ _ _ (w' := (acc2 X Wt c [0, 3])) rfl) $$ OUT
  iintro OUT
  have h25 : ∀ o ∈ ob35, 2 + stp 25 < obLv o := by decide +kernel
  iapply (recv3 X Wt c K 25 4 rfl rfl (b := slotM3 4) rfl rfl h25) $$ [W O Z]
  · iframe E W O Z
  iintro ⟨W, O, Z, S34⟩
  iapply (load_out2 c _ _ _) $$ OUT
  iintro OUT
  iapply (load_slot3 X c 4 _) $$ S34
  iintro S34
  iapply (load_slot2 Wt c 4 _) $$ S24
  iintro S24
  iapply (ret_step c _)
  iapply Kc
  iframe S24 T FR O CR OUT S30 S20 W Z S34

theorem part20 {v5 : BitVec 32} {Q : (PUnit) → sProp 𝕄} :
    iprop(env X Wt K ∗ outP c (acc0 X Wt c [2, 1, 0]) (acc1 X Wt c [5, 3, 1]) (acc2 X Wt c [0, 3]) ∗ Wr c wr15 ∗ ow c ob35 ∗ Zr c rz15)
      ⊢ iprop((outP c (acc0 X Wt c [2, 1, 0]) (acc1 X Wt c [5, 3, 1]) (acc2 X Wt c [4, 0, 3]) ∗ Wr c wr17 ∗ ow c ob35 ∗ Zr c rz17 ∗ slotP0 Wt c 3 (kp 0) ∗ slotP0 Wt c 4 (kp 0) -∗ Q ⟨⟩)
          -∗ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v5 (k0_pay19 (acc2 X Wt c [0, 3])) (k0_pay20 (xs X c 4)) (k0_pay21 (ws2 Wt c 4))) Q) := by
  rw [k0_part20_eq_skeleton]
  unfold k0_part20_skel
  simp only [Prog.lift, Prog.bind_op, Prog.bind_ret, Prog.pure_eq_ret, Prog.bind_assoc, semSignalWord, semWaitWord, smemLoad, smemLoadElt, wp_deviceId]
  iintro ⟨#E, OUT, W, O, Z⟩ Kc
  iapply (load_out2 c _ _ _) $$ OUT
  iintro OUT
  iapply (store_out2 c _ _ _ _ (w' := (acc2 X Wt c [4, 0, 3])) rfl) $$ OUT
  iintro OUT
  have h3 : ∀ o ∈ ob35, 2 + stp 3 < obLv o := by decide +kernel
  iapply (recv0 X Wt c K 3 3 rfl rfl (b := slotM0 3) rfl rfl h3) $$ [W O Z]
  · iframe E W O Z
  iintro ⟨W, O, Z, S03⟩
  have h4 : ∀ o ∈ ob35, 2 + stp 4 < obLv o := by decide +kernel
  iapply (recv0 X Wt c K 4 4 rfl rfl (b := slotM0 4) rfl rfl h4) $$ [W O Z]
  · iframe E W O Z
  iintro ⟨W, O, Z, S04⟩
  iapply (ret_step c _)
  iapply Kc
  iframe OUT W O Z S03 S04

theorem part21 {v5 : BitVec 32} {Q : (FVec F S512x2688 .f32) → sProp 𝕄} :
    iprop(env X Wt K ∗ Wr c wr17 ∗ ow c ob35 ∗ Zr c rz17 ∗ outP c (acc0 X Wt c [2, 1, 0]) (acc1 X Wt c [5, 3, 1]) (acc2 X Wt c [4, 0, 3]) ∗ slotP3 X c 3 (kp 0) ∗ slotP0 Wt c 3 (kp 0) ∗ slotP3 X c 4 (kp 0) ∗ slotP0 Wt c 4 (kp 0))
      ⊢ iprop((Wr c wr19 ∗ ow c ob35 ∗ Zr c rz19 ∗ outP c (acc0 X Wt c [3, 2, 1, 0]) (acc1 X Wt c [5, 3, 1]) (acc2 X Wt c [4, 0, 3]) ∗ slotP3 X c 3 (kp 0) ∗ slotP0 Wt c 3 (kp 0) ∗ slotP3 X c 4 (kp 0) ∗ slotP0 Wt c 4 (kp 0) ∗ slotP0 Wt c 5 (kp 0) ∗ slotP0 Wt c 6 (kp 0) -∗ Q (k0_pay24 (acc0 X Wt c [3, 2, 1, 0]) (xs X c 4) (ws0 Wt c 4)))
          -∗ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v5) Q) := by
  rw [k0_part21_eq_skeleton]
  unfold k0_part21_skel
  simp only [Prog.lift, Prog.bind_op, Prog.bind_ret, Prog.pure_eq_ret, Prog.bind_assoc, semSignalWord, semWaitWord, smemLoad, smemLoadElt, wp_deviceId]
  iintro ⟨#E, W, O, Z, OUT, S33, S03, S34, S04⟩ Kc
  have h5 : ∀ o ∈ ob35, 2 + stp 5 < obLv o := by decide +kernel
  iapply (recv0 X Wt c K 5 5 rfl rfl (b := slotM0 5) rfl rfl h5) $$ [W O Z]
  · iframe E W O Z
  iintro ⟨W, O, Z, S05⟩
  have h6 : ∀ o ∈ ob35, 2 + stp 6 < obLv o := by decide +kernel
  iapply (recv0 X Wt c K 6 6 rfl rfl (b := slotM0 6) rfl rfl h6) $$ [W O Z]
  · iframe E W O Z
  iintro ⟨W, O, Z, S06⟩
  iapply (load_out0 c _ _ _) $$ OUT
  iintro OUT
  iapply (load_slot3 X c 3 _) $$ S33
  iintro S33
  iapply (load_slot0 Wt c 3 _) $$ S03
  iintro S03
  iapply (load_out0 c _ _ _) $$ OUT
  iintro OUT
  iapply (store_out0 c _ _ _ _ (w' := (acc0 X Wt c [3, 2, 1, 0])) rfl) $$ OUT
  iintro OUT
  iapply (load_out0 c _ _ _) $$ OUT
  iintro OUT
  iapply (load_slot3 X c 4 _) $$ S34
  iintro S34
  iapply (load_slot0 Wt c 4 _) $$ S04
  iintro S04
  iapply (ret_step c _)
  iapply Kc
  iframe W O Z OUT S33 S03 S34 S04 S05 S06

theorem part22 {v5 : BitVec 32} {Q : (FVec F S512x2688 .f32) → sProp 𝕄} :
    iprop(env X Wt K ∗ outP c (acc0 X Wt c [3, 2, 1, 0]) (acc1 X Wt c [5, 3, 1]) (acc2 X Wt c [4, 0, 3]) ∗ slotP3 X c 5 (kp 0) ∗ slotP0 Wt c 5 (kp 0) ∗ Wr c wr19 ∗ ow c ob35 ∗ Zr c rz19 ∗ slotP0 Wt c 6 (kp 0))
      ⊢ iprop((outP c (acc0 X Wt c [5, 4, 3, 2, 1, 0]) (acc1 X Wt c [5, 3, 1]) (acc2 X Wt c [4, 0, 3]) ∗ slotP3 X c 5 (kp 0) ∗ slotP0 Wt c 5 (kp 0) ∗ Wr c wr20 ∗ ow c ob35 ∗ Zr c rz20 ∗ slotP0 Wt c 6 (kp 0) ∗ slotP3 X c 6 (kp 0) -∗ Q (k0_pay26 (acc0 X Wt c [5, 4, 3, 2, 1, 0]) (xs X c 6) (ws0 Wt c 6)))
          -∗ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v5 (k0_pay24 (acc0 X Wt c [3, 2, 1, 0]) (xs X c 4) (ws0 Wt c 4))) Q) := by
  rw [k0_part22_eq_skeleton]
  unfold k0_part22_skel
  simp only [Prog.lift, Prog.bind_op, Prog.bind_ret, Prog.pure_eq_ret, Prog.bind_assoc, semSignalWord, semWaitWord, smemLoad, smemLoadElt, wp_deviceId]
  iintro ⟨#E, OUT, S35, S05, W, O, Z, S06⟩ Kc
  iapply (load_out0 c _ _ _) $$ OUT
  iintro OUT
  iapply (store_out0 c _ _ _ _ (w' := (acc0 X Wt c [4, 3, 2, 1, 0])) rfl) $$ OUT
  iintro OUT
  iapply (load_out0 c _ _ _) $$ OUT
  iintro OUT
  iapply (load_slot3 X c 5 _) $$ S35
  iintro S35
  iapply (load_slot0 Wt c 5 _) $$ S05
  iintro S05
  iapply (load_out0 c _ _ _) $$ OUT
  iintro OUT
  iapply (store_out0 c _ _ _ _ (w' := (acc0 X Wt c [5, 4, 3, 2, 1, 0])) rfl) $$ OUT
  iintro OUT
  have h27 : ∀ o ∈ ob35, 2 + stp 27 < obLv o := by decide +kernel
  iapply (recv3 X Wt c K 27 6 rfl rfl (b := slotM3 6) rfl rfl h27) $$ [W O Z]
  · iframe E W O Z
  iintro ⟨W, O, Z, S36⟩
  iapply (load_out0 c _ _ _) $$ OUT
  iintro OUT
  iapply (load_slot3 X c 6 _) $$ S36
  iintro S36
  iapply (load_slot0 Wt c 6 _) $$ S06
  iintro S06
  iapply (ret_step c _)
  iapply Kc
  iframe OUT S35 S05 W O Z S06 S36

theorem part23 {v3 : BitVec 32} {Q : (PUnit) → sProp 𝕄} :
    iprop(env X Wt K ∗ outP c (acc0 X Wt c [5, 4, 3, 2, 1, 0]) (acc1 X Wt c [5, 3, 1]) (acc2 X Wt c [4, 0, 3]) ∗ Wr c wr20 ∗ ow c ob35 ∗ Zr c rz20)
      ⊢ iprop((outP c (acc0 X Wt c [6, 5, 4, 3, 2, 1, 0]) (acc1 X Wt c [5, 3, 1]) (acc2 X Wt c [4, 0, 3]) ∗ Wr c wr23 ∗ ow c ob35 ∗ Zr c rz23 ∗ slotP1 Wt c 0 (kp 0) ∗ slotP1 Wt c 2 (kp 0) ∗ slotP1 Wt c 4 (kp 0) -∗ Q ⟨⟩)
          -∗ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3 (k0_pay26 (acc0 X Wt c [5, 4, 3, 2, 1, 0]) (xs X c 6) (ws0 Wt c 6))) Q) := by
  rw [k0_part23_eq_skeleton]
  unfold k0_part23_skel
  simp only [Prog.lift, Prog.bind_op, Prog.bind_ret, Prog.pure_eq_ret, Prog.bind_assoc, semSignalWord, semWaitWord, smemLoad, smemLoadElt, wp_deviceId]
  iintro ⟨#E, OUT, W, O, Z⟩ Kc
  iapply (load_out0 c _ _ _) $$ OUT
  iintro OUT
  iapply (store_out0 c _ _ _ _ (w' := (acc0 X Wt c [6, 5, 4, 3, 2, 1, 0])) rfl) $$ OUT
  iintro OUT
  have h10 : ∀ o ∈ ob35, 2 + stp 10 < obLv o := by decide +kernel
  iapply (recv1 X Wt c K 10 0 rfl rfl (b := slotM1 0) rfl rfl h10) $$ [W O Z]
  · iframe E W O Z
  iintro ⟨W, O, Z, S10⟩
  have h11 : ∀ o ∈ ob35, 2 + stp 11 < obLv o := by decide +kernel
  iapply (recv1 X Wt c K 11 2 rfl rfl (b := slotM1 2) rfl rfl h11) $$ [W O Z]
  · iframe E W O Z
  iintro ⟨W, O, Z, S12⟩
  have h12 : ∀ o ∈ ob35, 2 + stp 12 < obLv o := by decide +kernel
  iapply (recv1 X Wt c K 12 4 rfl rfl (b := slotM1 4) rfl rfl h12) $$ [W O Z]
  · iframe E W O Z
  iintro ⟨W, O, Z, S14⟩
  iapply (ret_step c _)
  iapply Kc
  iframe OUT W O Z S10 S12 S14

end Cert.KernelIdeal.Pf

end
-- ==== Proof.Ideal.PartsC.lean ====
/-
  The body, parts 24 to 35: the last products, the epilogue and the departures.
-/
module

public import proofs.«01_k».proof.Proof.Ideal.Order

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

variable (K : Dev nD × Fin 57 → ℕ) {a0 a1 : S512x2688.Idx → Elt F .f32} {a2 : S512x2816.Idx → Elt F .f32} {s2 s3 : S1.Idx → Elt F .f32}

theorem part24 {v3 : BitVec 32} {Q : (PUnit) → sProp 𝕄} :
    iprop(env X Wt K ∗ Wr c wr23 ∗ ow c ob35 ∗ Zr c rz23 ∗ outP c (acc0 X Wt c [6, 5, 4, 3, 2, 1, 0]) (acc1 X Wt c [5, 3, 1]) (acc2 X Wt c [4, 0, 3]) ∗ slotP3 X c 0 (kp 0) ∗ slotP1 Wt c 0 (kp 0) ∗ slotP3 X c 2 (kp 0) ∗ slotP1 Wt c 2 (kp 0))
      ⊢ iprop((Wr c wr24 ∗ ow c ob35 ∗ Zr c rz24 ∗ outP c (acc0 X Wt c [6, 5, 4, 3, 2, 1, 0]) (acc1 X Wt c [2, 0, 5, 3, 1]) (acc2 X Wt c [4, 0, 3]) ∗ slotP3 X c 0 (kp 0) ∗ slotP1 Wt c 0 (kp 0) ∗ slotP3 X c 2 (kp 0) ∗ slotP1 Wt c 2 (kp 0) ∗ slotP1 Wt c 6 (kp 0) -∗ Q ⟨⟩)
          -∗ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3) Q) := by
  rw [k0_part24_eq_skeleton]
  unfold k0_part24_skel
  simp only [Prog.lift, Prog.bind_op, Prog.bind_ret, Prog.pure_eq_ret, Prog.bind_assoc, semSignalWord, semWaitWord, smemLoad, smemLoadElt, wp_deviceId]
  iintro ⟨#E, W, O, Z, OUT, S30, S10, S32, S12⟩ Kc
  have h13 : ∀ o ∈ ob35, 2 + stp 13 < obLv o := by decide +kernel
  iapply (recv1 X Wt c K 13 6 rfl rfl (b := slotM1 6) rfl rfl h13) $$ [W O Z]
  · iframe E W O Z
  iintro ⟨W, O, Z, S16⟩
  iapply (load_out1 c _ _ _) $$ OUT
  iintro OUT
  iapply (load_slot3 X c 0 _) $$ S30
  iintro S30
  iapply (load_slot1 Wt c 0 _) $$ S10
  iintro S10
  iapply (load_out1 c _ _ _) $$ OUT
  iintro OUT
  iapply (store_out1 c _ _ _ _ (w' := (acc1 X Wt c [0, 5, 3, 1])) rfl) $$ OUT
  iintro OUT
  iapply (load_out1 c _ _ _) $$ OUT
  iintro OUT
  iapply (load_slot3 X c 2 _) $$ S32
  iintro S32
  iapply (load_slot1 Wt c 2 _) $$ S12
  iintro S12
  iapply (load_out1 c _ _ _) $$ OUT
  iintro OUT
  iapply (store_out1 c _ _ _ _ (w' := (acc1 X Wt c [2, 0, 5, 3, 1])) rfl) $$ OUT
  iintro OUT
  iapply (ret_step c _)
  iapply Kc
  iframe W O Z OUT S30 S10 S32 S12 S16

theorem part25 {v4 : BitVec 32} {Q : (PUnit) → sProp 𝕄} :
    iprop(env X Wt K ∗ outP c (acc0 X Wt c [6, 5, 4, 3, 2, 1, 0]) (acc1 X Wt c [2, 0, 5, 3, 1]) (acc2 X Wt c [4, 0, 3]) ∗ slotP3 X c 4 (kp 0) ∗ slotP1 Wt c 4 (kp 0) ∗ slotP3 X c 6 (kp 0) ∗ slotP1 Wt c 6 (kp 0) ∗ Wr c wr24 ∗ ow c ob35 ∗ Zr c rz24)
      ⊢ iprop((outP c (acc0 X Wt c [6, 5, 4, 3, 2, 1, 0]) (acc1 X Wt c [6, 4, 2, 0, 5, 3, 1]) (acc2 X Wt c [4, 0, 3]) ∗ slotP3 X c 4 (kp 0) ∗ slotP1 Wt c 4 (kp 0) ∗ slotP3 X c 6 (kp 0) ∗ slotP1 Wt c 6 (kp 0) ∗ Wr c wr25 ∗ ow c ob35 ∗ Zr c rz25 ∗ slotP2 Wt c 1 (kp 0) -∗ Q ⟨⟩)
          -∗ WP c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4) Q) := by
  rw [k0_part25_eq_skeleton]
  unfold k0_part25_skel
  simp only [Prog.lift, Prog.bind_op, Prog.bind_ret, Prog.pure_eq_ret, Prog.bind_assoc, semSignalWord, semWaitWord, smemLoad, smemLoadElt, wp_deviceId]
  iintro ⟨#E, OUT, S34, S14, S36, S16, W, O, Z⟩ Kc
  iapply (load_out1 c _ _ _) $$ OUT
  iintro OUT
  iapply (load_slot3 X c 4 _) $$ S34
  iintro S34
  iapply (load_slot1 Wt c 4 _) $$ S14
  iintro S14
  iapply (load_out1 c _ _ _) $$ OUT
  iintro OUT
  iapply (store_out1 c _ _ _ _ (w' := (acc1 X Wt c [4, 2, 0, 5, 3, 1])) rfl) $$ OUT
  iintro OUT
  iapply (load_out1 c _ _ _) $$ OUT
  iintro OUT
  iapply (load_slot3 X c 6 _) $$ S36
  iintro S36
  iapply (load_slot1 Wt c 6 _) $$ S16
  iintro S16
  iapply (load_out1 c _ _ _) $$ OUT
  iintro OUT
  iapply (store_out1 c _ _ _ _ (w' := (acc1 X Wt c [6, 4, 2, 0, 5, 3, 1])) rfl) $$ OUT
  iintro OUT
  have h17 : ∀ o ∈ ob35, 2 + stp 17 < obLv o := by decide +kernel
  iapply (recv2 X Wt c K 17 1 rfl rfl (b := slotM2 1) rfl rfl h17) $$ [W O Z]
  · iframe E W O Z
  iintro ⟨W, O, Z, S21⟩
  iapply (ret_step c _)
  iapply Kc
  iframe OUT S34 S14 S36 S16 W O Z S21

theorem part26 {v4 : BitVec 32} {Q : (FVec F S512x2816 .f32) → sProp 𝕄} :
    iprop(env X Wt K ∗ Wr c wr25 ∗ ow c ob35 ∗ Zr c rz25 ∗ outP c (acc0 X Wt c [6, 5, 4, 3, 2, 1, 0]) (acc1 X Wt c [6, 4, 2, 0, 5, 3, 1]) (acc2 X Wt c [4, 0, 3]))
      ⊢ iprop((Wr c wr28 ∗ ow c ob35 ∗ Zr c rz28 ∗ outP c (acc0 X Wt c [6, 5, 4, 3, 2, 1, 0]) (acc1 X Wt c [6, 4, 2, 0, 5, 3, 1]) (acc2 X Wt c [4, 0, 3]) ∗ slotP2 Wt c 5 (kp 0) ∗ slotP2 Wt c 2 (kp 0) ∗ slotP2 Wt c 6 (kp 0) -∗ Q (k0_pay31 (acc2 X Wt c [4, 0, 3])))
          -∗ WP c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4) Q) := by
  rw [k0_part26_eq_skeleton]
  unfold k0_part26_skel
  simp only [Prog.lift, Prog.bind_op, Prog.bind_ret, Prog.pure_eq_ret, Prog.bind_assoc, semSignalWord, semWaitWord, smemLoad, smemLoadElt, wp_deviceId]
  iintro ⟨#E, W, O, Z, OUT⟩ Kc
  have h18 : ∀ o ∈ ob35, 2 + stp 18 < obLv o := by decide +kernel
  iapply (recv2 X Wt c K 18 5 rfl rfl (b := slotM2 5) rfl rfl h18) $$ [W O Z]
  · iframe E W O Z
  iintro ⟨W, O, Z, S25⟩
  have h19 : ∀ o ∈ ob35, 2 + stp 19 < obLv o := by decide +kernel
  iapply (recv2 X Wt c K 19 2 rfl rfl (b := slotM2 2) rfl rfl h19) $$ [W O Z]
  · iframe E W O Z
  iintro ⟨W, O, Z, S22⟩
  have h20 : ∀ o ∈ ob35, 2 + stp 20 < obLv o := by decide +kernel
  iapply (recv2 X Wt c K 20 6 rfl rfl (b := slotM2 6) rfl rfl h20) $$ [W O Z]
  · iframe E W O Z
  iintro ⟨W, O, Z, S26⟩
  iapply (load_out2 c _ _ _) $$ OUT
  iintro OUT
  iapply (ret_step c _)
  iapply Kc
  iframe W O Z OUT S25 S22 S26

theorem part27 {Q : (PUnit) → sProp 𝕄} :
    iprop(env X Wt K ∗ slotP3 X c 1 (kp 0) ∗ slotP2 Wt c 1 (kp 0) ∗ outP c (acc0 X Wt c [6, 5, 4, 3, 2, 1, 0]) (acc1 X Wt c [6, 4, 2, 0, 5, 3, 1]) (acc2 X Wt c [4, 0, 3]) ∗ slotP3 X c 5 (kp 0) ∗ slotP2 Wt c 5 (kp 0) ∗ slotP3 X c 2 (kp 0) ∗ slotP2 Wt c 2 (kp 0))
      ⊢ iprop((slotP3 X c 1 (kp 0) ∗ slotP2 Wt c 1 (kp 0) ∗ outP c (acc0 X Wt c [6, 5, 4, 3, 2, 1, 0]) (acc1 X Wt c [6, 4, 2, 0, 5, 3, 1]) (acc2 X Wt c [2, 5, 1, 4, 0, 3]) ∗ slotP3 X c 5 (kp 0) ∗ slotP2 Wt c 5 (kp 0) ∗ slotP3 X c 2 (kp 0) ∗ slotP2 Wt c 2 (kp 0) -∗ Q ⟨⟩)
          -∗ WP c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay31 (acc2 X Wt c [4, 0, 3]))) Q) := by
  rw [k0_part27_eq_skeleton]
  unfold k0_part27_skel
  simp only [Prog.lift, Prog.bind_op, Prog.bind_ret, Prog.pure_eq_ret, Prog.bind_assoc, semSignalWord, semWaitWord, smemLoad, smemLoadElt, wp_deviceId]
  iintro ⟨#E, S31, S21, OUT, S35, S25, S32, S22⟩ Kc
  iapply (load_slot3 X c 1 _) $$ S31
  iintro S31
  iapply (load_slot2 Wt c 1 _) $$ S21
  iintro S21
  iapply (load_out2 c _ _ _) $$ OUT
  iintro OUT
  iapply (store_out2 c _ _ _ _ (w' := (acc2 X Wt c [1, 4, 0, 3])) rfl) $$ OUT
  iintro OUT
  iapply (load_out2 c _ _ _) $$ OUT
  iintro OUT
  iapply (load_slot3 X c 5 _) $$ S35
  iintro S35
  iapply (load_slot2 Wt c 5 _) $$ S25
  iintro S25
  iapply (load_out2 c _ _ _) $$ OUT
  iintro OUT
  iapply (store_out2 c _ _ _ _ (w' := (acc2 X Wt c [5, 1, 4, 0, 3])) rfl) $$ OUT
  iintro OUT
  iapply (load_out2 c _ _ _) $$ OUT
  iintro OUT
  iapply (load_slot3 X c 2 _) $$ S32
  iintro S32
  iapply (load_slot2 Wt c 2 _) $$ S22
  iintro S22
  iapply (load_out2 c _ _ _) $$ OUT
  iintro OUT
  iapply (store_out2 c _ _ _ _ (w' := (acc2 X Wt c [2, 5, 1, 4, 0, 3])) rfl) $$ OUT
  iintro OUT
  iapply (ret_step c _)
  iapply Kc
  iframe S31 S21 OUT S35 S25 S32 S22

theorem part28 {Q : (Σ' (v728 : F .f32), FVec F S512x1024 .f32) → sProp 𝕄} :
    iprop(env X Wt K ∗ outP c (acc0 X Wt c [6, 5, 4, 3, 2, 1, 0]) (acc1 X Wt c [6, 4, 2, 0, 5, 3, 1]) (acc2 X Wt c [2, 5, 1, 4, 0, 3]) ∗ slotP3 X c 6 (kp 0) ∗ slotP2 Wt c 6 (kp 0) ∗ sc2P c s2 ∗ sc3P c s3)
      ⊢ iprop((epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 2) ∗ slotP3 X c 6 (kp 0) ∗ slotP2 Wt c 6 (kp 0) ∗ sc2P c s2 ∗ sc3P c s3 -∗ Q ⟨k0_pay36 (s2 e1) (s3 e1), k0_pay39 (s2 e1) (s3 e1) (rdc 2 (fin3 (acc0 X Wt c [6, 5, 4, 3, 2, 1, 0]) (acc1 X Wt c [6, 4, 2, 0, 5, 3, 1]) (acc2 X Wt c [6, 2, 5, 1, 4, 0, 3])))⟩)
          -∗ WP c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part28_eq_skeleton]
  unfold k0_part28_skel
  simp only [Prog.lift, Prog.bind_op, Prog.bind_ret, Prog.pure_eq_ret, Prog.bind_assoc, semSignalWord, semWaitWord, smemLoad, smemLoadElt, wp_deviceId]
  iintro ⟨#E, OUT, S36, S26, A2, A3⟩ Kc
  iapply (load_out2 c _ _ _) $$ OUT
  iintro OUT
  iapply (load_slot3 X c 6 _) $$ S36
  iintro S36
  iapply (load_slot2 Wt c 6 _) $$ S26
  iintro S26
  iapply (load_out2 c _ _ _) $$ OUT
  iintro OUT
  iapply (store_out2 c _ _ _ _ (w' := (acc2 X Wt c [6, 2, 5, 1, 4, 0, 3])) rfl) $$ OUT
  iintro OUT
  iapply (load_sc2 c s2) $$ A2
  iintro A2
  iapply (load_sc3 c s3) $$ A3
  iintro A3
  ihave OUT := (out_ep c _ _ _ (k0_pay36 (s2 e1) (s3 e1))) $$ OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 0 0 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 0 0 rfl) $$ OUT
  iintro OUT
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 0 0 1 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 1 1 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 1 1 rfl) $$ OUT
  iintro OUT
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 1 1 2 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 2 2 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 2 2 rfl) $$ OUT
  iintro OUT
  iapply (ret_step c _)
  iapply Kc
  iframe OUT S36 S26 A2 A3

theorem part29 {Q : (FVec F S512x1024 .f32) → sProp 𝕄} :
    iprop(env X Wt K ∗ epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 2))
      ⊢ iprop((epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 7) -∗ Q (k0_pay44 (k0_pay36 (s2 e1) (s3 e1)) (rdc 7 (fin3 (acc0 X Wt c [6, 5, 4, 3, 2, 1, 0]) (acc1 X Wt c [6, 4, 2, 0, 5, 3, 1]) (acc2 X Wt c [6, 2, 5, 1, 4, 0, 3])))))
          -∗ WP c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay36 (s2 e1) (s3 e1)) (k0_pay39 (s2 e1) (s3 e1) (rdc 2 (fin3 (acc0 X Wt c [6, 5, 4, 3, 2, 1, 0]) (acc1 X Wt c [6, 4, 2, 0, 5, 3, 1]) (acc2 X Wt c [6, 2, 5, 1, 4, 0, 3]))))) Q) := by
  rw [k0_part29_eq_skeleton]
  unfold k0_part29_skel
  simp only [Prog.lift, Prog.bind_op, Prog.bind_ret, Prog.pure_eq_ret, Prog.bind_assoc, semSignalWord, semWaitWord, smemLoad, smemLoadElt, wp_deviceId]
  iintro ⟨#E, OUT⟩ Kc
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 2 2 3 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 3 3 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 3 3 rfl) $$ OUT
  iintro OUT
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 3 3 4 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 4 4 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 4 4 rfl) $$ OUT
  iintro OUT
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 4 4 5 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 5 5 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 5 5 rfl) $$ OUT
  iintro OUT
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 5 5 6 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 6 6 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 6 6 rfl) $$ OUT
  iintro OUT
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 6 6 7 rfl rfl _ rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 7 7 rfl) $$ OUT
  iintro OUT
  iapply (load_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 7 7 rfl) $$ OUT
  iintro OUT
  iapply (ret_step c _)
  iapply Kc
  iframe OUT

theorem part30 {Q : (PUnit) → sProp 𝕄} :
    iprop(env X Wt K ∗ epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 7) ∗ Cr c cz28 ∗ Ps c dr0 ∗ ow c ob35 ∗ Zs c dz0 ∗ Rt X Wt c dz0)
      ⊢ iprop((epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 8) ∗ Cr c dr4 ∗ Ps c dr4 ∗ ow c ob35 ∗ Zs c dz4 ∗ Rt X Wt c dz4 -∗ Q ⟨⟩)
          -∗ WP c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay44 (k0_pay36 (s2 e1) (s3 e1)) (rdc 7 (fin3 (acc0 X Wt c [6, 5, 4, 3, 2, 1, 0]) (acc1 X Wt c [6, 4, 2, 0, 5, 3, 1]) (acc2 X Wt c [6, 2, 5, 1, 4, 0, 3]))))) Q) := by
  rw [k0_part30_eq_skeleton]
  unfold k0_part30_skel
  simp only [Prog.lift, Prog.bind_op, Prog.bind_ret, Prog.pure_eq_ret, Prog.bind_assoc, semSignalWord, semWaitWord, smemLoad, smemLoadElt, wp_deviceId]
  iintro ⟨#E, OUT, CR, P, O, ZS, RT⟩ Kc
  iapply (store_chunk c (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 7 7 8 rfl rfl _ rfl) $$ OUT
  iintro OUT
  ihave CR := (Cr_order c) $$ CR
  iapply (done_step X Wt K c 0 (b := colM0) rfl rfl) $$ [P CR O ZS RT]
  · iframe E P CR O ZS RT
  iintro ⟨P, CR, O, ZS, RT⟩
  iapply (done_step X Wt K c 7 (b := colM1) rfl rfl) $$ [P CR O ZS RT]
  · iframe E P CR O ZS RT
  iintro ⟨P, CR, O, ZS, RT⟩
  iapply (done_step X Wt K c 14 (b := colM2) rfl rfl) $$ [P CR O ZS RT]
  · iframe E P CR O ZS RT
  iintro ⟨P, CR, O, ZS, RT⟩
  iapply (done_step X Wt K c 1 (b := colM0) rfl rfl) $$ [P CR O ZS RT]
  · iframe E P CR O ZS RT
  iintro ⟨P, CR, O, ZS, RT⟩
  iapply (ret_step c _)
  iapply Kc
  iframe OUT CR P O ZS RT

theorem part31 {Q : (PUnit) → sProp 𝕄} :
    iprop(env X Wt K ∗ Ps c dr4 ∗ Cr c dr4 ∗ ow c ob35 ∗ Zs c dz4 ∗ Rt X Wt c dz4)
      ⊢ iprop((Ps c dr8 ∗ Cr c dr8 ∗ ow c ob35 ∗ Zs c dz8 ∗ Rt X Wt c dz8 -∗ Q ⟨⟩)
          -∗ WP c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part31_eq_skeleton]
  unfold k0_part31_skel
  simp only [Prog.lift, Prog.bind_op, Prog.bind_ret, Prog.pure_eq_ret, Prog.bind_assoc, semSignalWord, semWaitWord, smemLoad, smemLoadElt, wp_deviceId]
  iintro ⟨#E, P, CR, O, ZS, RT⟩ Kc
  iapply (done_step X Wt K c 2 (b := slotM0 0) rfl rfl) $$ [P CR O ZS RT]
  · iframe E P CR O ZS RT
  iintro ⟨P, CR, O, ZS, RT⟩
  iapply (done_step X Wt K c 8 (b := colM1) rfl rfl) $$ [P CR O ZS RT]
  · iframe E P CR O ZS RT
  iintro ⟨P, CR, O, ZS, RT⟩
  iapply (done_step X Wt K c 9 (b := slotM1 1) rfl rfl) $$ [P CR O ZS RT]
  · iframe E P CR O ZS RT
  iintro ⟨P, CR, O, ZS, RT⟩
  iapply (done_step X Wt K c 15 (b := colM2) rfl rfl) $$ [P CR O ZS RT]
  · iframe E P CR O ZS RT
  iintro ⟨P, CR, O, ZS, RT⟩
  iapply (ret_step c _)
  iapply Kc
  iframe P CR O ZS RT

theorem part32 {Q : (PUnit) → sProp 𝕄} :
    iprop(env X Wt K ∗ Ps c dr8 ∗ Cr c dr8 ∗ ow c ob35 ∗ Zs c dz8 ∗ Rt X Wt c dz8)
      ⊢ iprop((Ps c dr12 ∗ Cr c dr12 ∗ ow c ob35 ∗ Zs c dz12 ∗ Rt X Wt c dz12 -∗ Q ⟨⟩)
          -∗ WP c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part32_eq_skeleton]
  unfold k0_part32_skel
  simp only [Prog.lift, Prog.bind_op, Prog.bind_ret, Prog.pure_eq_ret, Prog.bind_assoc, semSignalWord, semWaitWord, smemLoad, smemLoadElt, wp_deviceId]
  iintro ⟨#E, P, CR, O, ZS, RT⟩ Kc
  iapply (done_step X Wt K c 16 (b := slotM2 3) rfl rfl) $$ [P CR O ZS RT]
  · iframe E P CR O ZS RT
  iintro ⟨P, CR, O, ZS, RT⟩
  iapply (done_step X Wt K c 3 (b := colM0) rfl rfl) $$ [P CR O ZS RT]
  · iframe E P CR O ZS RT
  iintro ⟨P, CR, O, ZS, RT⟩
  iapply (done_step X Wt K c 4 (b := slotM0 0) rfl rfl) $$ [P CR O ZS RT]
  · iframe E P CR O ZS RT
  iintro ⟨P, CR, O, ZS, RT⟩
  iapply (done_step X Wt K c 5 (b := slotM0 1) rfl rfl) $$ [P CR O ZS RT]
  · iframe E P CR O ZS RT
  iintro ⟨P, CR, O, ZS, RT⟩
  iapply (ret_step c _)
  iapply Kc
  iframe P CR O ZS RT

theorem part33 {Q : (PUnit) → sProp 𝕄} :
    iprop(env X Wt K ∗ Ps c dr12 ∗ Cr c dr12 ∗ ow c ob35 ∗ Zs c dz12 ∗ Rt X Wt c dz12)
      ⊢ iprop((Ps c dr15 ∗ Cr c dr15 ∗ ow c ob35 ∗ Zs c dz15 ∗ Rt X Wt c dz15 -∗ Q ⟨⟩)
          -∗ WP c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part33_eq_skeleton]
  unfold k0_part33_skel
  simp only [Prog.lift, Prog.bind_op, Prog.bind_ret, Prog.pure_eq_ret, Prog.bind_assoc, semSignalWord, semWaitWord, smemLoad, smemLoadElt, wp_deviceId]
  iintro ⟨#E, P, CR, O, ZS, RT⟩ Kc
  iapply (done_step X Wt K c 6 (b := slotM0 2) rfl rfl) $$ [P CR O ZS RT]
  · iframe E P CR O ZS RT
  iintro ⟨P, CR, O, ZS, RT⟩
  iapply (done_step X Wt K c 10 (b := colM1) rfl rfl) $$ [P CR O ZS RT]
  · iframe E P CR O ZS RT
  iintro ⟨P, CR, O, ZS, RT⟩
  iapply (done_step X Wt K c 11 (b := slotM1 1) rfl rfl) $$ [P CR O ZS RT]
  · iframe E P CR O ZS RT
  iintro ⟨P, CR, O, ZS, RT⟩
  iapply (ret_step c _)
  iapply Kc
  iframe P CR O ZS RT

theorem part34 {Q : (PUnit) → sProp 𝕄} :
    iprop(env X Wt K ∗ Ps c dr15 ∗ Cr c dr15 ∗ ow c ob35 ∗ Zs c dz15 ∗ Rt X Wt c dz15)
      ⊢ iprop((Ps c dr19 ∗ Cr c dr19 ∗ ow c ob35 ∗ Zs c dz19 ∗ Rt X Wt c dz19 -∗ Q ⟨⟩)
          -∗ WP c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part34_eq_skeleton]
  unfold k0_part34_skel
  simp only [Prog.lift, Prog.bind_op, Prog.bind_ret, Prog.pure_eq_ret, Prog.bind_assoc, semSignalWord, semWaitWord, smemLoad, smemLoadElt, wp_deviceId]
  iintro ⟨#E, P, CR, O, ZS, RT⟩ Kc
  iapply (done_step X Wt K c 12 (b := slotM1 3) rfl rfl) $$ [P CR O ZS RT]
  · iframe E P CR O ZS RT
  iintro ⟨P, CR, O, ZS, RT⟩
  iapply (done_step X Wt K c 13 (b := slotM1 5) rfl rfl) $$ [P CR O ZS RT]
  · iframe E P CR O ZS RT
  iintro ⟨P, CR, O, ZS, RT⟩
  iapply (done_step X Wt K c 17 (b := colM2) rfl rfl) $$ [P CR O ZS RT]
  · iframe E P CR O ZS RT
  iintro ⟨P, CR, O, ZS, RT⟩
  iapply (done_step X Wt K c 18 (b := slotM2 3) rfl rfl) $$ [P CR O ZS RT]
  · iframe E P CR O ZS RT
  iintro ⟨P, CR, O, ZS, RT⟩
  iapply (ret_step c _)
  iapply Kc
  iframe P CR O ZS RT

theorem part35 {Q : (PUnit) → sProp 𝕄} :
    iprop(env X Wt K ∗ Ps c dr19 ∗ Cr c dr19 ∗ ow c ob35 ∗ Zs c dz19 ∗ Rt X Wt c dz19)
      ⊢ iprop((Ps c dr23 ∗ Cr c dr23 ∗ ow c ob35 ∗ Zs c dz23 ∗ Rt X Wt c dz23 -∗ Q ⟨⟩)
          -∗ WP c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  rw [k0_part35_eq_skeleton]
  unfold k0_part35_skel
  simp only [Prog.lift, Prog.bind_op, Prog.bind_ret, Prog.pure_eq_ret, Prog.bind_assoc, semSignalWord, semWaitWord, smemLoad, smemLoadElt, wp_deviceId]
  iintro ⟨#E, P, CR, O, ZS, RT⟩ Kc
  iapply (done_step X Wt K c 19 (b := slotM2 0) rfl rfl) $$ [P CR O ZS RT]
  · iframe E P CR O ZS RT
  iintro ⟨P, CR, O, ZS, RT⟩
  iapply (done_step X Wt K c 20 (b := slotM2 4) rfl rfl) $$ [P CR O ZS RT]
  · iframe E P CR O ZS RT
  iintro ⟨P, CR, O, ZS, RT⟩
  iapply (done_step X Wt K c 21 (b := rowZ) rfl rfl) $$ [P CR O ZS RT]
  · iframe E P CR O ZS RT
  iintro ⟨P, CR, O, ZS, RT⟩
  iapply (done_step X Wt K c 22 (b := rowZ) rfl rfl) $$ [P CR O ZS RT]
  · iframe E P CR O ZS RT
  iintro ⟨P, CR, O, ZS, RT⟩
  iapply (ret_step c _)
  iapply Kc
  iframe P CR O ZS RT

end Cert.KernelIdeal.Pf

end
-- ==== Proof.Ideal.Body.lean ====
/-
  The body of the kernel on one device: the parts in order.
-/
module

public import proofs.«01_k».proof.Proof.Ideal.PartsA
public import proofs.«01_k».proof.Proof.Ideal.PartsB
public import proofs.«01_k».proof.Proof.Ideal.PartsC

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

variable (K : Dev nD × Fin 57 → ℕ) {a0 a1 : S512x2688.Idx → Elt F .f32} {a2 : S512x2816.Idx → Elt F .f32} {s2 s3 : S1.Idx → Elt F .f32}

theorem bind_step {α β : Type} (p : Prog (TpuEff nD τ sig (Elt F) Λ₀ .tc) β) (k : β → Prog (TpuEff nD τ sig (Elt F) Λ₀ .tc) α) {Q : α → sProp 𝕄} :
    WP c p (fun x => WP c (k x) Q) ⊢ WP c (p >>= k) Q := by
  unfold WP
  rw [wp_bind]

/-- What the body starts from. -/
def bodyIn (a0 a1 : S512x2688.Idx → Elt F .f32) (a2 : S512x2816.Idx → Elt F .f32) (s2 s3 : S1.Idx → Elt F .f32) : sProp 𝕄 :=
  iprop(Bk c sg0 ∗ ow c ob0 ∗ atPos ER (barCell c) 0 ∅ 0 ∗ cred (tallyAt (barCell c) () 7) ∗ colP0 Wt c (kp 0) ∗ Tk c tr0 ∗ Cr c cz0 ∗ colP1 Wt c (kp 0) ∗ colP2 Wt c (kp 0) ∗ rowP X c 0 (kp 0) ∗ rowP X c 2 (kp 0) ∗ rowP X c 1 (kp 0) ∗ rowP X c 3 (kp 0) ∗ rowP X c 4 (kp 0) ∗ rowP X c 6 (kp 0) ∗ rowP X c 5 (kp 0) ∗ ownP X c (kp 0) ∗ outP c a0 a1 a2 ∗ Wr c wr0 ∗ Zr c rz0 ∗ sc2P c s2 ∗ sc3P c s3 ∗ Ps c dr0 ∗ Zs c dz0 ∗ Rt X Wt c dz0)
/-- What the body leaves when the departures of the last row blocks are still to be waited for. -/
def bodyMid (s2 s3 : S1.Idx → Elt F .f32) : sProp 𝕄 :=
  iprop(Bk c sg7 ∗ ow c ob35 ∗ colP0 Wt c (kp 3) ∗ Tk c tr28 ∗ Cr c dr25 ∗ colP1 Wt c (kp 3) ∗ colP2 Wt c (kp 3) ∗ rowP X c 0 (kp 1) ∗ rowP X c 2 (kp 1) ∗ rowP X c 1 (kp 1) ∗ rowP X c 3 (kp 1) ∗ rowP X c 4 (kp 1) ∗ rowP X c 6 (kp 1) ∗ rowP X c 5 (kp 1) ∗ ownP X c (kp 0) ∗ epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 8) ∗ Wr c wr28 ∗ Zr c rz28 ∗ sc2P c s2 ∗ sc3P c s3 ∗ Ps c dr25 ∗ Zs c dz25 ∗ Rt X Wt c dz25 ∗ semVal (barCell c) 0 ∗ Fr c tr28 ∗ slotP0 Wt c 0 (kp 2) ∗ slotP3 X c 0 (kp 0) ∗ slotP1 Wt c 1 (kp 2) ∗ slotP3 X c 1 (kp 0) ∗ slotP2 Wt c 3 (kp 2) ∗ slotP3 X c 3 (kp 0) ∗ slotP0 Wt c 1 (kp 1) ∗ slotP0 Wt c 2 (kp 1) ∗ slotP3 X c 2 (kp 0) ∗ slotP1 Wt c 3 (kp 1) ∗ slotP1 Wt c 5 (kp 1) ∗ slotP3 X c 5 (kp 0) ∗ slotP2 Wt c 0 (kp 1) ∗ slotP2 Wt c 4 (kp 1) ∗ slotP3 X c 4 (kp 0) ∗ slotP0 Wt c 3 (kp 0) ∗ slotP0 Wt c 4 (kp 0) ∗ slotP0 Wt c 5 (kp 0) ∗ slotP0 Wt c 6 (kp 0) ∗ slotP3 X c 6 (kp 0) ∗ slotP1 Wt c 0 (kp 0) ∗ slotP1 Wt c 2 (kp 0) ∗ slotP1 Wt c 4 (kp 0) ∗ slotP1 Wt c 6 (kp 0) ∗ slotP2 Wt c 1 (kp 0) ∗ slotP2 Wt c 5 (kp 0) ∗ slotP2 Wt c 2 (kp 0) ∗ slotP2 Wt c 6 (kp 0))
/-- What the body leaves. -/
def bodyOut (s2 s3 : S1.Idx → Elt F .f32) : sProp 𝕄 :=
  iprop(Bk c sg7 ∗ ow c ob35 ∗ colP0 Wt c (kp 3) ∗ Tk c tr28 ∗ Cr c dr28 ∗ colP1 Wt c (kp 3) ∗ colP2 Wt c (kp 3) ∗ rowP X c 0 (kp 1) ∗ rowP X c 2 (kp 1) ∗ rowP X c 1 (kp 1) ∗ rowP X c 3 (kp 1) ∗ rowP X c 4 (kp 1) ∗ rowP X c 6 (kp 1) ∗ rowP X c 5 (kp 1) ∗ ownP X c (kp 0) ∗ epP c (ep (fin3 (acc0 X Wt c [6, 5, 4, 3, 2, 1, 0]) (acc1 X Wt c [6, 4, 2, 0, 5, 3, 1]) (acc2 X Wt c [6, 2, 5, 1, 4, 0, 3])) (k0_pay36 (s2 e1) (s3 e1)) 8) ∗ Wr c wr28 ∗ Zr c rz28 ∗ sc2P c s2 ∗ sc3P c s3 ∗ Ps c dr28 ∗ Zs c dz28 ∗ Rt X Wt c dz28 ∗ semVal (barCell c) 0 ∗ Fr c tr28 ∗ slotP0 Wt c 0 (kp 2) ∗ slotP3 X c 0 (kp 0) ∗ slotP1 Wt c 1 (kp 2) ∗ slotP3 X c 1 (kp 0) ∗ slotP2 Wt c 3 (kp 2) ∗ slotP3 X c 3 (kp 0) ∗ slotP0 Wt c 1 (kp 1) ∗ slotP0 Wt c 2 (kp 1) ∗ slotP3 X c 2 (kp 0) ∗ slotP1 Wt c 3 (kp 1) ∗ slotP1 Wt c 5 (kp 1) ∗ slotP3 X c 5 (kp 0) ∗ slotP2 Wt c 0 (kp 1) ∗ slotP2 Wt c 4 (kp 1) ∗ slotP3 X c 4 (kp 0) ∗ slotP0 Wt c 3 (kp 0) ∗ slotP0 Wt c 4 (kp 0) ∗ slotP0 Wt c 5 (kp 0) ∗ slotP0 Wt c 6 (kp 0) ∗ slotP3 X c 6 (kp 0) ∗ slotP1 Wt c 0 (kp 0) ∗ slotP1 Wt c 2 (kp 0) ∗ slotP1 Wt c 4 (kp 0) ∗ slotP1 Wt c 6 (kp 0) ∗ slotP2 Wt c 1 (kp 0) ∗ slotP2 Wt c 5 (kp 0) ∗ slotP2 Wt c 2 (kp 0) ∗ slotP2 Wt c 6 (kp 0))

theorem part36 {Q : PUnit → sProp 𝕄} :
    iprop(env X Wt K ∗ bodyIn X Wt c a0 a1 a2 s2 s3) ⊢ iprop((bodyMid X Wt c s2 s3 -∗ Q ⟨⟩) -∗ WP c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [k0_part36_eq_skeleton]
  unfold k0_part36_skel bodyIn bodyMid
  iintro ⟨#E, SG, O, BP, BC, C0, T, CR, C1, C2, R0, R2, R1, R3, R4, R6, R5, OW, OUT, W, Z, A2, A3, P, ZS, RT⟩ Kc
  iapply (bind_step c _ _)
  iapply (part1 X Wt c K) $$ [SG O]
  · iframe E SG O
  iintro ⟨SG, O⟩
  iapply (bind_step c _ _)
  iapply (part2 X Wt c K) $$ [SG O BP BC C0 T CR C1]
  · iframe E SG O BP BC C0 T CR C1
  iintro ⟨SG, O, C0, T, CR, C1, BV, FR⟩
  iapply (bind_step c _ _)
  iapply (part3 X Wt c K) $$ [C2 T FR O CR R0 R2]
  · iframe E C2 T FR O CR R0 R2
  iintro ⟨C2, T, FR, O, CR, R0, R2⟩
  iapply (bind_step c _ _)
  iapply (part4 X Wt c K) $$ [R1 T FR O CR R3 R4]
  · iframe E R1 T FR O CR R3 R4
  iintro ⟨R1, T, FR, O, CR, R3, R4⟩
  iapply (bind_step c _ _)
  iapply (part5 X Wt c K) $$ [R6 T FR O CR R5 OW C0 OUT]
  · iframe E R6 T FR O CR R5 OW C0 OUT
  iintro ⟨R6, T, FR, O, CR, R5, OW, C0, OUT⟩
  iapply (bind_step c _ _)
  iapply (part6 X Wt c K) $$ [C1 OUT C2 W O Z C0 T FR CR]
  · iframe E C1 OUT C2 W O Z C0 T FR CR
  iintro ⟨C1, OUT, C2, W, O, Z, C0, T, FR, CR, S00⟩
  iapply (bind_step c _ _)
  iapply (part7 X Wt c K) $$ [S00 T FR O CR W Z OUT]
  · iframe E S00 T FR O CR W Z OUT
  iintro ⟨S00, T, FR, O, CR, W, Z, OUT, S30⟩
  iapply (bind_step c _ _)
  iapply (part8 X Wt c K) $$ [W O Z C1 T FR CR]
  · iframe E W O Z C1 T FR CR
  iintro ⟨W, O, Z, C1, T, FR, CR, S11⟩
  iapply (bind_step c _ _)
  iapply (part9 X Wt c K) $$ [W O Z OUT S11]
  · iframe E W O Z OUT S11
  iintro ⟨W, O, Z, OUT, S11, S31, S23⟩
  iapply (bind_step c _ _)
  iapply (part10 X Wt c K) $$ [C2 T FR O CR S23 W Z OUT]
  · iframe E C2 T FR O CR S23 W Z OUT
  iintro ⟨C2, T, FR, O, CR, S23, W, Z, OUT, S33⟩
  iapply (bind_step c _ _)
  iapply (part11 X Wt c K) $$ [S23 OUT W O Z]
  · iframe E S23 OUT W O Z
  iintro ⟨S23, OUT, W, O, Z, S01, S02⟩
  iapply (bind_step c _ _)
  iapply (part12 X Wt c K) $$ [C0 T FR O CR S00 S01]
  · iframe E C0 T FR O CR S00 S01
  iintro ⟨C0, T, FR, O, CR, S00, S01⟩
  iapply (bind_step c _ _)
  iapply (part13 X Wt c K) $$ [S02 T FR O CR OUT S31 S01 W Z]
  · iframe E S02 T FR O CR OUT S31 S01 W Z
  iintro ⟨S02, T, FR, O, CR, OUT, S31, S01, W, Z, S32⟩
  iapply (bind_step c _ _)
  iapply (part14 X Wt c K) $$ [S02 OUT W O Z]
  · iframe E S02 OUT W O Z
  iintro ⟨S02, OUT, W, O, Z, S13, S15⟩
  iapply (bind_step c _ _)
  iapply (part15 X Wt c K) $$ [C1 T FR O CR S11 S13]
  · iframe E C1 T FR O CR S11 S13
  iintro ⟨C1, T, FR, O, CR, S11, S13⟩
  iapply (bind_step c _ _)
  iapply (part16 X Wt c K) $$ [S15 T FR O CR OUT S33 S13 W Z]
  · iframe E S15 T FR O CR OUT S33 S13 W Z
  iintro ⟨S15, T, FR, O, CR, OUT, S33, S13, W, Z, S35⟩
  iapply (bind_step c _ _)
  iapply (part17 X Wt c K) $$ [OUT W O Z]
  · iframe E OUT W O Z
  iintro ⟨OUT, W, O, Z, S20, S24⟩
  iapply (bind_step c _ _)
  iapply (part18 X Wt c K) $$ [C2 T FR O CR S23 S20]
  · iframe E C2 T FR O CR S23 S20
  iintro ⟨C2, T, FR, O, CR, S23, S20⟩
  iapply (bind_step c _ _)
  iapply (part19 X Wt c K) $$ [S24 T FR O CR OUT S30 S20 W Z]
  · iframe E S24 T FR O CR OUT S30 S20 W Z
  iintro ⟨S24, T, FR, O, CR, OUT, S30, S20, W, Z, S34⟩
  iapply (bind_step c _ _)
  iapply (part20 X Wt c K) $$ [OUT W O Z]
  · iframe E OUT W O Z
  iintro ⟨OUT, W, O, Z, S03, S04⟩
  iapply (bind_step c _ _)
  iapply (part21 X Wt c K) $$ [W O Z OUT S33 S03 S34 S04]
  · iframe E W O Z OUT S33 S03 S34 S04
  iintro ⟨W, O, Z, OUT, S33, S03, S34, S04, S05, S06⟩
  iapply (bind_step c _ _)
  iapply (part22 X Wt c K) $$ [OUT S35 S05 W O Z S06]
  · iframe E OUT S35 S05 W O Z S06
  iintro ⟨OUT, S35, S05, W, O, Z, S06, S36⟩
  iapply (bind_step c _ _)
  iapply (part23 X Wt c K) $$ [OUT W O Z]
  · iframe E OUT W O Z
  iintro ⟨OUT, W, O, Z, S10, S12, S14⟩
  iapply (bind_step c _ _)
  iapply (part24 X Wt c K) $$ [W O Z OUT S30 S10 S32 S12]
  · iframe E W O Z OUT S30 S10 S32 S12
  iintro ⟨W, O, Z, OUT, S30, S10, S32, S12, S16⟩
  iapply (bind_step c _ _)
  iapply (part25 X Wt c K) $$ [OUT S34 S14 S36 S16 W O Z]
  · iframe E OUT S34 S14 S36 S16 W O Z
  iintro ⟨OUT, S34, S14, S36, S16, W, O, Z, S21⟩
  iapply (bind_step c _ _)
  iapply (part26 X Wt c K) $$ [W O Z OUT]
  · iframe E W O Z OUT
  iintro ⟨W, O, Z, OUT, S25, S22, S26⟩
  iapply (bind_step c _ _)
  iapply (part27 X Wt c K) $$ [S31 S21 OUT S35 S25 S32 S22]
  · iframe E S31 S21 OUT S35 S25 S32 S22
  iintro ⟨S31, S21, OUT, S35, S25, S32, S22⟩
  iapply (bind_step c _ _)
  iapply (part28 X Wt c K) $$ [OUT S36 S26 A2 A3]
  · iframe E OUT S36 S26 A2 A3
  iintro ⟨OUT, S36, S26, A2, A3⟩
  iapply (bind_step c _ _)
  iapply (part29 X Wt c K) $$ [OUT]
  · iframe E OUT
  iintro OUT
  iapply (bind_step c _ _)
  iapply (part30 X Wt c K) $$ [OUT CR P O ZS RT]
  · iframe E OUT CR P O ZS RT
  iintro ⟨OUT, CR, P, O, ZS, RT⟩
  iapply (bind_step c _ _)
  iapply (part31 X Wt c K) $$ [P CR O ZS RT]
  · iframe E P CR O ZS RT
  iintro ⟨P, CR, O, ZS, RT⟩
  iapply (bind_step c _ _)
  iapply (part32 X Wt c K) $$ [P CR O ZS RT]
  · iframe E P CR O ZS RT
  iintro ⟨P, CR, O, ZS, RT⟩
  iapply (bind_step c _ _)
  iapply (part33 X Wt c K) $$ [P CR O ZS RT]
  · iframe E P CR O ZS RT
  iintro ⟨P, CR, O, ZS, RT⟩
  iapply (bind_step c _ _)
  iapply (part34 X Wt c K) $$ [P CR O ZS RT]
  · iframe E P CR O ZS RT
  iintro ⟨P, CR, O, ZS, RT⟩
  iapply (bind_step c _ _)
  iapply (part35 X Wt c K) $$ [P CR O ZS RT]
  · iframe E P CR O ZS RT
  iintro ⟨P, CR, O, ZS, RT⟩
  simp only [Prog.lift, Prog.bind_op, Prog.bind_ret, Prog.pure_eq_ret]
  iapply (done_step X Wt K c 23 (b := rowZ) rfl rfl) $$ [P CR O ZS RT]
  · iframe E P CR O ZS RT
  iintro ⟨P, CR, O, ZS, RT⟩
  iapply (done_step X Wt K c 24 (b := rowZ) rfl rfl) $$ [P CR O ZS RT]
  · iframe E P CR O ZS RT
  iintro ⟨P, CR, O, ZS, RT⟩
  iapply (ret_step c _)
  iapply Kc
  iframe SG O C0 T CR C1 C2 R0 R2 R1 R3 R4 R6 R5 OW OUT W Z A2 A3 P ZS RT BV FR S00 S30 S11 S31 S23 S33 S01 S02 S32 S13 S15 S35 S20 S24 S34 S03 S04 S05 S06 S36 S10 S12 S14 S16 S21 S25 S22 S26

theorem body {Q : PUnit → sProp 𝕄} :
    iprop(env X Wt K ∗ bodyIn X Wt c a0 a1 a2 s2 s3) ⊢ iprop((bodyOut X Wt c s2 s3 -∗ Q ⟨⟩) -∗ WP c (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0__body_eq_skeleton]
  unfold cc0__body_skel
  iintro ⟨#E, H⟩ Kc
  iapply (bind_step c _ _)
  iapply (part36 X Wt c K) $$ [H]
  · iframe E H
  unfold bodyMid bodyOut
  iintro ⟨SG, O, C0, T, CR, C1, C2, R0, R2, R1, R3, R4, R6, R5, OW, OUT, W, Z, A2, A3, P, ZS, RT, BV, FR, S00, S30, S11, S31, S23, S33, S01, S02, S32, S13, S15, S35, S20, S24, S34, S03, S04, S05, S06, S36, S10, S12, S14, S16, S21, S25, S22, S26⟩
  simp only [Prog.lift, Prog.bind_op, Prog.bind_ret, Prog.pure_eq_ret]
  iapply (done_step X Wt K c 25 (b := rowZ) rfl rfl) $$ [P CR O ZS RT]
  · iframe E P CR O ZS RT
  iintro ⟨P, CR, O, ZS, RT⟩
  iapply (done_step X Wt K c 26 (b := rowZ) rfl rfl) $$ [P CR O ZS RT]
  · iframe E P CR O ZS RT
  iintro ⟨P, CR, O, ZS, RT⟩
  iapply (done_step X Wt K c 27 (b := rowZ) rfl rfl) $$ [P CR O ZS RT]
  · iframe E P CR O ZS RT
  iintro ⟨P, CR, O, ZS, RT⟩
  iapply (ret_step c _)
  iapply Kc
  iframe SG O C0 T CR C1 C2 R0 R2 R1 R3 R4 R6 R5 OW OUT W Z A2 A3 P ZS RT BV FR S00 S30 S11 S31 S23 S33 S01 S02 S32 S13 S15 S35 S20 S24 S34 S03 S04 S05 S06 S36 S10 S12 S14 S16 S21 S25 S22 S26

end Cert.KernelIdeal.Pf

end
-- ==== Proof.Ideal.Cuts.lean ====
/-
  The buffers as pieces and back: the staged operands as row and column blocks, a landing buffer as its slots, the slots as what the
  barriers hand over, and all shares put together again after the exchange.
-/
module

public import proofs.«01_k».proof.Proof.Ideal.Body

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → S4096x512.Idx → Elt F .fp8e4m3) (Wt : Dev nD → S512x8192.Idx → Elt F .fp8e4m3)
variable (K : Dev nD × Fin 57 → ℕ) (c : Dev nD)

/-! ## Families of sets of one buffer -/

/-- The members and the rest, all at the same contents, are the buffer at these contents. -/
theorem fam_glue {ℓ : Loc nD τ sig} {B : Type} [Fintype B] (I : B → Finset (Idx ℓ)) (hd : ∀ b b', b ≠ b' → Disjoint (I b) (I b')) {q : PosShare TreeShare} (f : Buf (Elt F) ℓ) :
    iprop(bigSep Finset.univ (fun b => ℓ ↦[I b]{q} f) ∗ ℓ ↦[Ring.restOf I]{q} f) ⊢ (ℓ ↦{q} f : sProp 𝕄) := by
  rw [← pointsTo_biUnion Finset.univ I (fun b _ b' _ h => hd b b' h)]
  exact (pointsTo_split_subset (Finset.subset_univ _)).2

/-- Sets on which a function takes different values are disjoint. -/
theorem apart {α B : Type} [DecidableEq α] (I : B → Finset α) (k : α → ℕ) (v : B → ℕ) (hv : Function.Injective v) (h : ∀ b, ∀ i ∈ I b, k i = v b) (b b' : B) (hb : b ≠ b') : Disjoint (I b) (I b') :=
  Finset.disjoint_left.mpr fun i hi hi' => hb (hv ((h b i hi).symm.trans (h b' i hi')))

/-- A share put back: what a copy gave back, and what was kept. -/
theorem glue {ℓ : Loc nD τ sig} {I : Finset (Idx ℓ)} {f : Buf (Elt F) ℓ} (n : ℕ) :
    iprop((ℓ ↦[I]{kp (n + 1)} f) ∗ (ℓ ↦[I]{sh n} f)) ⊢ (ℓ ↦[I]{kp n} f : sProp 𝕄) := by
  iintro ⟨A, B⟩
  iapply (pointsTo_share (PosShare.mem_left_op_right (kp n))).2
  isplitl [B]
  · iexact B
  · iexact A

theorem colP0_glue (n : ℕ) : iprop(colP0 Wt c (kp (n + 1)) ∗ colP0 Wt c (sh n)) ⊢ colP0 Wt c (kp n) := glue n
theorem slotP0_glue (j : Fin 7) (n : ℕ) : iprop(slotP0 Wt c j (kp (n + 1)) ∗ slotP0 Wt c j (sh n)) ⊢ slotP0 Wt c j (kp n) := glue n
theorem colP1_glue (n : ℕ) : iprop(colP1 Wt c (kp (n + 1)) ∗ colP1 Wt c (sh n)) ⊢ colP1 Wt c (kp n) := glue n
theorem slotP1_glue (j : Fin 7) (n : ℕ) : iprop(slotP1 Wt c j (kp (n + 1)) ∗ slotP1 Wt c j (sh n)) ⊢ slotP1 Wt c j (kp n) := glue n
theorem colP2_glue (n : ℕ) : iprop(colP2 Wt c (kp (n + 1)) ∗ colP2 Wt c (sh n)) ⊢ colP2 Wt c (kp n) := glue n
theorem slotP2_glue (j : Fin 7) (n : ℕ) : iprop(slotP2 Wt c j (kp (n + 1)) ∗ slotP2 Wt c j (sh n)) ⊢ slotP2 Wt c j (kp n) := glue n
theorem rowP_glue (r : Fin 7) (n : ℕ) : iprop(rowP X c r (kp (n + 1)) ∗ rowP X c r (sh n)) ⊢ rowP X c r (kp n) := glue n

/-! ## The rows of `x` -/

theorem off1_eq : ∀ (c : Dev nD) (r : Fin 7), k0_off1 c (BitVec.ofNat 32 (1 + r.val)) 0 = 512 * (px r.succ c).val := by decide +kernel
theorem off2_eq : ∀ c : Dev nD, k0_off2 c 0 = 512 * (px 0 c).val := by decide +kernel
theorem px_inj : ∀ c : Dev nD, Function.Injective (fun b : Fin 8 => (px b c).val) := by decide +kernel

def xI : Fin 8 → Finset (Idx ((c : Thread nD τ).loc cc0_stg0_0)) :=
  ![(ownM c).view.set, (rowM c 0).view.set, (rowM c 1).view.set, (rowM c 2).view.set, (rowM c 3).view.set, (rowM c 4).view.set, (rowM c 5).view.set, (rowM c 6).view.set]

theorem row_at (r : Fin 7) : ∀ i ∈ (rowM c r).view.set, ((i : S4096x512.Idx) 0).val / 512 = (px r.succ c).val := by
  intro i hi
  obtain ⟨y, -, rfl⟩ := Finset.mem_map.mp hi
  show (k0_off1 c (BitVec.ofNat 32 (1 + r.val)) 0 + 1 * (y 0).val) / 512 = _
  have h : (y 0).val < 512 := (y 0).isLt
  rw [off1_eq]; omega
theorem own_at : ∀ i ∈ (ownM c).view.set, ((i : S4096x512.Idx) 0).val / 512 = (px 0 c).val := by
  intro i hi
  obtain ⟨y, -, rfl⟩ := Finset.mem_map.mp hi
  show (k0_off2 c 0 + 1 * (y 0).val) / 512 = _
  have h : (y 0).val < 512 := (y 0).isLt
  rw [off2_eq]; omega
theorem xI_apart : ∀ b b', b ≠ b' → Disjoint (xI c b) (xI c b') := by
  refine apart (xI c) (fun i => ((i : S4096x512.Idx) 0).val / 512) (fun b => (px b c).val) (px_inj c) fun b => ?_
  fin_cases b
  · exact own_at c
  · exact row_at c 0
  · exact row_at c 1
  · exact row_at c 2
  · exact row_at c 3
  · exact row_at c 4
  · exact row_at c 5
  · exact row_at c 6

/-- What the row blocks leave of the staged `x`. -/
def xRest : sProp 𝕄 := (c : Thread nD τ).loc cc0_stg0_0 ↦[Ring.restOf (xI c)]{fullShare} X c

theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_3 (Φ : Fin 3 → sProp 𝕄) : bigSep Finset.univ Φ = iprop(Φ 0 ∗ Φ 1 ∗ Φ 2) :=
  bigSep_univ_eq_bigSepL [0, 1, 2] (by decide) (by decide) Φ

def rows : sProp 𝕄 := iprop(ownP X c (kp 0) ∗ rowP X c 0 (kp 0) ∗ rowP X c 1 (kp 0) ∗ rowP X c 2 (kp 0) ∗ rowP X c 3 (kp 0) ∗ rowP X c 4 (kp 0) ∗ rowP X c 5 (kp 0) ∗ rowP X c 6 (kp 0))

theorem rows_eq : bigSep Finset.univ (fun b => ((c : Thread nD τ).loc cc0_stg0_0 ↦[xI c b]{fullShare} X c : sProp 𝕄)) = rows X c := by
  rw [bigSep_8]; rfl
theorem rows_cut : ((c : Thread nD τ).loc cc0_stg0_0 ↦{fullShare} X c : sProp 𝕄) ⊢ iprop(rows X c ∗ xRest X c) := by
  rw [← rows_eq]; exact Ring.fam_split (xI c) (xI_apart c) _
theorem rows_glue : iprop(rows X c ∗ xRest X c) ⊢ ((c : Thread nD τ).loc cc0_stg0_0 ↦{fullShare} X c : sProp 𝕄) := by
  rw [← rows_eq]; exact fam_glue (xI c) (xI_apart c) _

/-! ## The columns of the weight block -/

def wI : Fin 3 → Finset (Idx ((c : Thread nD τ).loc cc0_stg1_0)) := ![colM0.view.set, colM1.view.set, colM2.view.set]

/-- The part a column lies in. -/
def colPart (n : ℕ) : ℕ := if n < 2688 then 0 else if n < 5376 then 1 else 2

theorem col_at0 : ∀ i ∈ colM0.view.set, colPart ((i : S512x8192.Idx) 1).val = 0 := by
  intro i hi
  obtain ⟨y, -, rfl⟩ := Finset.mem_map.mp hi
  show colPart (0 + 1 * (y 1).val) = _
  have h : (y 1).val < 2688 := (y 1).isLt
  unfold colPart
  split_ifs <;> omega
theorem col_at1 : ∀ i ∈ colM1.view.set, colPart ((i : S512x8192.Idx) 1).val = 1 := by
  intro i hi
  obtain ⟨y, -, rfl⟩ := Finset.mem_map.mp hi
  show colPart (2688 + 1 * (y 1).val) = _
  have h : (y 1).val < 2688 := (y 1).isLt
  unfold colPart
  split_ifs <;> omega
theorem col_at2 : ∀ i ∈ colM2.view.set, colPart ((i : S512x8192.Idx) 1).val = 2 := by
  intro i hi
  obtain ⟨y, -, rfl⟩ := Finset.mem_map.mp hi
  show colPart (5376 + 1 * (y 1).val) = _
  have h : (y 1).val < 2816 := (y 1).isLt
  unfold colPart
  split_ifs <;> omega
theorem wI_apart : ∀ b b', b ≠ b' → Disjoint (wI c b) (wI c b') := by
  refine apart (wI c) (fun i => colPart ((i : S512x8192.Idx) 1).val) (fun b => b.val) Fin.val_injective fun b => ?_
  fin_cases b
  · exact col_at0
  · exact col_at1
  · exact col_at2

def wRest : sProp 𝕄 := (c : Thread nD τ).loc cc0_stg1_0 ↦[Ring.restOf (wI c)]{fullShare} Wt c
def cols : sProp 𝕄 := iprop(colP0 Wt c (kp 0) ∗ colP1 Wt c (kp 0) ∗ colP2 Wt c (kp 0))

theorem cols_eq : bigSep Finset.univ (fun b => ((c : Thread nD τ).loc cc0_stg1_0 ↦[wI c b]{fullShare} Wt c : sProp 𝕄)) = cols Wt c := by
  rw [bigSep_3]; rfl
theorem cols_cut : ((c : Thread nD τ).loc cc0_stg1_0 ↦{fullShare} Wt c : sProp 𝕄) ⊢ iprop(cols Wt c ∗ wRest Wt c) := by
  rw [← cols_eq]; exact Ring.fam_split (wI c) (wI_apart c) _
theorem cols_glue : iprop(cols Wt c ∗ wRest Wt c) ⊢ ((c : Thread nD τ).loc cc0_stg1_0 ↦{fullShare} Wt c : sProp 𝕄) := by
  rw [← cols_eq]; exact fam_glue (wI c) (wI_apart c) _

/-! ## The landing buffers -/

theorem slot_at0 (j : Fin 7) : ∀ i ∈ (slotM0 j).view.set, ((i : S7x512x2688.Idx) 0).val = j.val := by
  intro i hi
  obtain ⟨y, -, rfl⟩ := Finset.mem_map.mp hi
  obtain ⟨a, b, rfl⟩ : ∃ (a : Fin 512) (b : Fin 2688), y = ix2 a b := ⟨y 0, y 1, eq_ix2 y⟩
  rw [slot_emb0]; rfl
def sI0 (j : Fin 7) : Finset (Idx ((c : Thread nD τ).loc cc0_scratch0)) := (slotM0 j).view.set
theorem sI0_apart : ∀ b b', b ≠ b' → Disjoint (sI0 c b) (sI0 c b') :=
  apart (sI0 c) (fun i => ((i : S7x512x2688.Idx) 0).val) (fun b => b.val) Fin.val_injective (slot_at0)
def sRest0 : sProp 𝕄 := iprop(∃ f : Buf (Elt F) ((c : Thread nD τ).loc cc0_scratch0), (c : Thread nD τ).loc cc0_scratch0 ↦[Ring.restOf (sI0 c)]{fullShare} f)
def scr0 : sProp 𝕄 := iprop(∃ f : Buf (Elt F) ((c : Thread nD τ).loc cc0_scratch0), (c : Thread nD τ).loc cc0_scratch0 ↦{fullShare} f)
def free0 : sProp 𝕄 := iprop(freeP0 c 0 ∗ freeP0 c 1 ∗ freeP0 c 2 ∗ freeP0 c 3 ∗ freeP0 c 4 ∗ freeP0 c 5 ∗ freeP0 c 6)
theorem free0_eq : bigSep Finset.univ (fun j => (iprop(∃ f, (c : Thread nD τ).loc cc0_scratch0 ↦[sI0 c j]{fullShare} f) : sProp 𝕄)) = free0 (F := F) c := by
  rw [bigSep_7]; rfl
theorem scr0_cut : scr0 (F := F) c ⊢ iprop(free0 c ∗ sRest0 c) := by
  rw [← free0_eq]; exact Ring.fam_split_ex (sI0 c) (sI0_apart c)
theorem scr0_glue (f : S7x512x2688.Idx → Elt F .fp8e4m3) : iprop(free0 c ∗ sRest0 c) ⊢ scr0 (F := F) c := by
  rw [← free0_eq]; exact Ring.fam_join (sI0 c) (sI0_apart c) f
theorem slotP0_free (j : Fin 7) : slotP0 Wt c j (kp 0) ⊢ freeP0 c j := by
  unfold slotP0 freeP0; iintro H; iexists _; iexact H

theorem slot_at1 (j : Fin 7) : ∀ i ∈ (slotM1 j).view.set, ((i : S7x512x2688.Idx) 0).val = j.val := by
  intro i hi
  obtain ⟨y, -, rfl⟩ := Finset.mem_map.mp hi
  obtain ⟨a, b, rfl⟩ : ∃ (a : Fin 512) (b : Fin 2688), y = ix2 a b := ⟨y 0, y 1, eq_ix2 y⟩
  rw [slot_emb1]; rfl
def sI1 (j : Fin 7) : Finset (Idx ((c : Thread nD τ).loc cc0_scratch1)) := (slotM1 j).view.set
theorem sI1_apart : ∀ b b', b ≠ b' → Disjoint (sI1 c b) (sI1 c b') :=
  apart (sI1 c) (fun i => ((i : S7x512x2688.Idx) 0).val) (fun b => b.val) Fin.val_injective (slot_at1)
def sRest1 : sProp 𝕄 := iprop(∃ f : Buf (Elt F) ((c : Thread nD τ).loc cc0_scratch1), (c : Thread nD τ).loc cc0_scratch1 ↦[Ring.restOf (sI1 c)]{fullShare} f)
def scr1 : sProp 𝕄 := iprop(∃ f : Buf (Elt F) ((c : Thread nD τ).loc cc0_scratch1), (c : Thread nD τ).loc cc0_scratch1 ↦{fullShare} f)
def free1 : sProp 𝕄 := iprop(freeP1 c 0 ∗ freeP1 c 1 ∗ freeP1 c 2 ∗ freeP1 c 3 ∗ freeP1 c 4 ∗ freeP1 c 5 ∗ freeP1 c 6)
theorem free1_eq : bigSep Finset.univ (fun j => (iprop(∃ f, (c : Thread nD τ).loc cc0_scratch1 ↦[sI1 c j]{fullShare} f) : sProp 𝕄)) = free1 (F := F) c := by
  rw [bigSep_7]; rfl
theorem scr1_cut : scr1 (F := F) c ⊢ iprop(free1 c ∗ sRest1 c) := by
  rw [← free1_eq]; exact Ring.fam_split_ex (sI1 c) (sI1_apart c)
theorem scr1_glue (f : S7x512x2688.Idx → Elt F .fp8e4m3) : iprop(free1 c ∗ sRest1 c) ⊢ scr1 (F := F) c := by
  rw [← free1_eq]; exact Ring.fam_join (sI1 c) (sI1_apart c) f
theorem slotP1_free (j : Fin 7) : slotP1 Wt c j (kp 0) ⊢ freeP1 c j := by
  unfold slotP1 freeP1; iintro H; iexists _; iexact H

theorem slot_at2 (j : Fin 7) : ∀ i ∈ (slotM2 j).view.set, ((i : S7x512x2816.Idx) 0).val = j.val := by
  intro i hi
  obtain ⟨y, -, rfl⟩ := Finset.mem_map.mp hi
  obtain ⟨a, b, rfl⟩ : ∃ (a : Fin 512) (b : Fin 2816), y = ix2 a b := ⟨y 0, y 1, eq_ix2 y⟩
  rw [slot_emb2]; rfl
def sI2 (j : Fin 7) : Finset (Idx ((c : Thread nD τ).loc cc0_scratch2)) := (slotM2 j).view.set
theorem sI2_apart : ∀ b b', b ≠ b' → Disjoint (sI2 c b) (sI2 c b') :=
  apart (sI2 c) (fun i => ((i : S7x512x2816.Idx) 0).val) (fun b => b.val) Fin.val_injective (slot_at2)
def sRest2 : sProp 𝕄 := iprop(∃ f : Buf (Elt F) ((c : Thread nD τ).loc cc0_scratch2), (c : Thread nD τ).loc cc0_scratch2 ↦[Ring.restOf (sI2 c)]{fullShare} f)
def scr2 : sProp 𝕄 := iprop(∃ f : Buf (Elt F) ((c : Thread nD τ).loc cc0_scratch2), (c : Thread nD τ).loc cc0_scratch2 ↦{fullShare} f)
def free2 : sProp 𝕄 := iprop(freeP2 c 0 ∗ freeP2 c 1 ∗ freeP2 c 2 ∗ freeP2 c 3 ∗ freeP2 c 4 ∗ freeP2 c 5 ∗ freeP2 c 6)
theorem free2_eq : bigSep Finset.univ (fun j => (iprop(∃ f, (c : Thread nD τ).loc cc0_scratch2 ↦[sI2 c j]{fullShare} f) : sProp 𝕄)) = free2 (F := F) c := by
  rw [bigSep_7]; rfl
theorem scr2_cut : scr2 (F := F) c ⊢ iprop(free2 c ∗ sRest2 c) := by
  rw [← free2_eq]; exact Ring.fam_split_ex (sI2 c) (sI2_apart c)
theorem scr2_glue (f : S7x512x2816.Idx → Elt F .fp8e4m3) : iprop(free2 c ∗ sRest2 c) ⊢ scr2 (F := F) c := by
  rw [← free2_eq]; exact Ring.fam_join (sI2 c) (sI2_apart c) f
theorem slotP2_free (j : Fin 7) : slotP2 Wt c j (kp 0) ⊢ freeP2 c j := by
  unfold slotP2 freeP2; iintro H; iexists _; iexact H

theorem slot_at3 (j : Fin 7) : ∀ i ∈ (slotM3 j).view.set, ((i : S7x512x512.Idx) 0).val = j.val := by
  intro i hi
  obtain ⟨y, -, rfl⟩ := Finset.mem_map.mp hi
  obtain ⟨a, b, rfl⟩ : ∃ (a : Fin 512) (b : Fin 512), y = ix2 a b := ⟨y 0, y 1, eq_ix2 y⟩
  rw [slot_emb3]; rfl
def sI3 (j : Fin 7) : Finset (Idx ((c : Thread nD τ).loc cc0_scratch3)) := (slotM3 j).view.set
theorem sI3_apart : ∀ b b', b ≠ b' → Disjoint (sI3 c b) (sI3 c b') :=
  apart (sI3 c) (fun i => ((i : S7x512x512.Idx) 0).val) (fun b => b.val) Fin.val_injective (slot_at3)
def sRest3 : sProp 𝕄 := iprop(∃ f : Buf (Elt F) ((c : Thread nD τ).loc cc0_scratch3), (c : Thread nD τ).loc cc0_scratch3 ↦[Ring.restOf (sI3 c)]{fullShare} f)
def scr3 : sProp 𝕄 := iprop(∃ f : Buf (Elt F) ((c : Thread nD τ).loc cc0_scratch3), (c : Thread nD τ).loc cc0_scratch3 ↦{fullShare} f)
def free3 : sProp 𝕄 := iprop(freeP3 c 0 ∗ freeP3 c 1 ∗ freeP3 c 2 ∗ freeP3 c 3 ∗ freeP3 c 4 ∗ freeP3 c 5 ∗ freeP3 c 6)
theorem free3_eq : bigSep Finset.univ (fun j => (iprop(∃ f, (c : Thread nD τ).loc cc0_scratch3 ↦[sI3 c j]{fullShare} f) : sProp 𝕄)) = free3 (F := F) c := by
  rw [bigSep_7]; rfl
theorem scr3_cut : scr3 (F := F) c ⊢ iprop(free3 c ∗ sRest3 c) := by
  rw [← free3_eq]; exact Ring.fam_split_ex (sI3 c) (sI3_apart c)
theorem scr3_glue (f : S7x512x512.Idx → Elt F .fp8e4m3) : iprop(free3 c ∗ sRest3 c) ⊢ scr3 (F := F) c := by
  rw [← free3_eq]; exact Ring.fam_join (sI3 c) (sI3_apart c) f
theorem slotP3_free (j : Fin 7) : slotP3 X c j (kp 0) ⊢ freeP3 c j := by
  unfold slotP3 freeP3; iintro H; iexists _; iexact H

/-! ## What the barriers hand over -/

/-- The device's own slots, by the transfers that land in them. -/
theorem free_all : iprop(free0 c ∗ free1 c ∗ free2 c ∗ free3 c) ⊢ bigSep Finset.univ (freeP (F := F) c) := by
  rw [bigSep_univ_eq_bigSepL [0, 1, 2, 3, 4, 5, 6, 10, 7, 11, 8, 12, 9, 13, 15, 17, 19, 14, 16, 18, 20, 21, 22, 23, 24, 25, 26, 27] (by decide +kernel) (by decide +kernel)]
  show _ ⊢ iprop(freeP0 c 0 ∗ freeP0 c 1 ∗ freeP0 c 2 ∗ freeP0 c 3 ∗ freeP0 c 4 ∗ freeP0 c 5 ∗ freeP0 c 6 ∗ freeP1 c 0 ∗ freeP1 c 1 ∗ freeP1 c 2 ∗ freeP1 c 3 ∗ freeP1 c 4 ∗ freeP1 c 5 ∗ freeP1 c 6 ∗ freeP2 c 0 ∗ freeP2 c 1 ∗ freeP2 c 2 ∗ freeP2 c 3 ∗ freeP2 c 4 ∗ freeP2 c 5 ∗ freeP2 c 6 ∗ freeP3 c 0 ∗ freeP3 c 1 ∗ freeP3 c 2 ∗ freeP3 c 3 ∗ freeP3 c 4 ∗ freeP3 c 5 ∗ freeP3 c 6)
  unfold free0 free1 free2 free3
  iintro ⟨⟨A00, A01, A02, A03, A04, A05, A06⟩, ⟨A10, A11, A12, A13, A14, A15, A16⟩, ⟨A20, A21, A22, A23, A24, A25, A26⟩, ⟨A30, A31, A32, A33, A34, A35, A36⟩⟩
  isplitl [A00]
  · iexact A00
  isplitl [A01]
  · iexact A01
  isplitl [A02]
  · iexact A02
  isplitl [A03]
  · iexact A03
  isplitl [A04]
  · iexact A04
  isplitl [A05]
  · iexact A05
  isplitl [A06]
  · iexact A06
  isplitl [A10]
  · iexact A10
  isplitl [A11]
  · iexact A11
  isplitl [A12]
  · iexact A12
  isplitl [A13]
  · iexact A13
  isplitl [A14]
  · iexact A14
  isplitl [A15]
  · iexact A15
  isplitl [A16]
  · iexact A16
  isplitl [A20]
  · iexact A20
  isplitl [A21]
  · iexact A21
  isplitl [A22]
  · iexact A22
  isplitl [A23]
  · iexact A23
  isplitl [A24]
  · iexact A24
  isplitl [A25]
  · iexact A25
  isplitl [A26]
  · iexact A26
  isplitl [A30]
  · iexact A30
  isplitl [A31]
  · iexact A31
  isplitl [A32]
  · iexact A32
  isplitl [A33]
  · iexact A33
  isplitl [A34]
  · iexact A34
  isplitl [A35]
  · iexact A35
  iexact A36

theorem barP_px (e : Fin 8) : barP (F := F) (px e c) e = bigSep (Finset.univ.filter fun i => tm i = e) (freeP c) := by
  unfold barP; rw [px_px]

/-- The tokens of the barriers a device signals. -/
def barToks : sProp 𝕄 := bigSep ((Finset.univ : Finset (Fin 8)).erase 0) fun e => dutyTok ER (barCell (px e c)) 0 e

theorem Bk_intro : iprop(barToks c ∗ free0 c ∗ free1 c ∗ free2 c ∗ free3 c) ⊢ Bk (F := F) c sg0 := by
  unfold Bk barToks
  rw [lst_eq _ _ (by decide +kernel), ← tm_sets.1, bigSep_sep']
  refine sep_mono_right ((free_all c).trans (Entails.of_eq ?_))
  rw [bigSep_fiberwise Finset.univ tm, show (Finset.univ : Finset (Fin 28)).image tm = (Finset.univ : Finset (Fin 8)).erase 0 by decide +kernel]
  exact bigSep_congr fun e _ => (barP_px c e).symm

/-! ## The shares put together -/

/-- What a device holds of the columns, the rows and the slots when its copies have departed. -/
def kept : sProp 𝕄 := iprop(colP0 Wt c (kp 3) ∗ colP1 Wt c (kp 3) ∗ colP2 Wt c (kp 3) ∗ rowP X c 0 (kp 1) ∗ rowP X c 1 (kp 1) ∗ rowP X c 2 (kp 1) ∗ rowP X c 3 (kp 1) ∗ rowP X c 4 (kp 1) ∗ rowP X c 5 (kp 1) ∗ rowP X c 6 (kp 1) ∗ slotP0 Wt c 0 (kp 2) ∗ slotP0 Wt c 1 (kp 1) ∗ slotP0 Wt c 2 (kp 1) ∗ slotP0 Wt c 3 (kp 0) ∗ slotP0 Wt c 4 (kp 0) ∗ slotP0 Wt c 5 (kp 0) ∗ slotP0 Wt c 6 (kp 0) ∗ slotP1 Wt c 0 (kp 0) ∗ slotP1 Wt c 1 (kp 2) ∗ slotP1 Wt c 2 (kp 0) ∗ slotP1 Wt c 3 (kp 1) ∗ slotP1 Wt c 4 (kp 0) ∗ slotP1 Wt c 5 (kp 1) ∗ slotP1 Wt c 6 (kp 0) ∗ slotP2 Wt c 0 (kp 1) ∗ slotP2 Wt c 1 (kp 0) ∗ slotP2 Wt c 2 (kp 0) ∗ slotP2 Wt c 3 (kp 2) ∗ slotP2 Wt c 4 (kp 1) ∗ slotP2 Wt c 5 (kp 0) ∗ slotP2 Wt c 6 (kp 0) ∗ slotP3 X c 0 (kp 0) ∗ slotP3 X c 1 (kp 0) ∗ slotP3 X c 2 (kp 0) ∗ slotP3 X c 3 (kp 0) ∗ slotP3 X c 4 (kp 0) ∗ slotP3 X c 5 (kp 0) ∗ slotP3 X c 6 (kp 0))

/-- With what the copies gave back, the columns, the row blocks and the slots are whole. -/
theorem shares : iprop(ownP X c (kp 0) ∗ kept X Wt c ∗ Rt X Wt c dz28) ⊢ iprop(cols Wt c ∗ rows X c ∗ free0 c ∗ free1 c ∗ free2 c ∗ free3 c) := by
  unfold kept cols rows free0 free1 free2 free3
  simp only [dz28, dz27, dz26, dz25, dz24, dz23, dz22, dz21, dz20, dz19, dz18, dz17, dz16, dz15, dz14, dz13, dz12, dz11, dz10, dz9, dz8, dz7, dz6, dz5, dz4, dz3, dz2, dz1, dz0, Rt_cons]
  iintro ⟨OW, ⟨H0, H1, H2, H3, H4, H5, H6, H7, H8, H9, H10, H11, H12, H13, H14, H15, H16, H17, H18, H19, H20, H21, H22, H23, H24, H25, H26, H27, H28, H29, H30, H31, H32, H33, H34, H35, H36, H37⟩, T27, T26, T25, T24, T23, T22, T21, T20, T19, T18, T17, T13, T12, T11, T10, T6, T5, T4, T3, T16, T15, T9, T8, T2, T1, T14, T7, T0, -⟩
  ihave T3 := (show srcP X Wt c 3 ⊢ colP0 Wt c (sh 2) from Entails.rfl) $$ T3
  ihave H0 := (colP0_glue Wt c 2) $$ [H0 T3]
  · isplitl [H0]
    · iexact H0
    · iexact T3
  ihave T1 := (show srcP X Wt c 1 ⊢ colP0 Wt c (sh 1) from Entails.rfl) $$ T1
  ihave H0 := (colP0_glue Wt c 1) $$ [H0 T1]
  · isplitl [H0]
    · iexact H0
    · iexact T1
  ihave T0 := (show srcP X Wt c 0 ⊢ colP0 Wt c (sh 0) from Entails.rfl) $$ T0
  ihave H0 := (colP0_glue Wt c 0) $$ [H0 T0]
  · isplitl [H0]
    · iexact H0
    · iexact T0
  ihave T4 := (show srcP X Wt c 4 ⊢ slotP0 Wt c 0 (sh 1) from Entails.rfl) $$ T4
  ihave H10 := (slotP0_glue Wt c 0 1) $$ [H10 T4]
  · isplitl [H10]
    · iexact H10
    · iexact T4
  ihave T2 := (show srcP X Wt c 2 ⊢ slotP0 Wt c 0 (sh 0) from Entails.rfl) $$ T2
  ihave H10 := (slotP0_glue Wt c 0 0) $$ [H10 T2]
  · isplitl [H10]
    · iexact H10
    · iexact T2
  ihave T5 := (show srcP X Wt c 5 ⊢ slotP0 Wt c 1 (sh 0) from Entails.rfl) $$ T5
  ihave H11 := (slotP0_glue Wt c 1 0) $$ [H11 T5]
  · isplitl [H11]
    · iexact H11
    · iexact T5
  ihave T6 := (show srcP X Wt c 6 ⊢ slotP0 Wt c 2 (sh 0) from Entails.rfl) $$ T6
  ihave H12 := (slotP0_glue Wt c 2 0) $$ [H12 T6]
  · isplitl [H12]
    · iexact H12
    · iexact T6
  ihave T10 := (show srcP X Wt c 10 ⊢ colP1 Wt c (sh 2) from Entails.rfl) $$ T10
  ihave H1 := (colP1_glue Wt c 2) $$ [H1 T10]
  · isplitl [H1]
    · iexact H1
    · iexact T10
  ihave T8 := (show srcP X Wt c 8 ⊢ colP1 Wt c (sh 1) from Entails.rfl) $$ T8
  ihave H1 := (colP1_glue Wt c 1) $$ [H1 T8]
  · isplitl [H1]
    · iexact H1
    · iexact T8
  ihave T7 := (show srcP X Wt c 7 ⊢ colP1 Wt c (sh 0) from Entails.rfl) $$ T7
  ihave H1 := (colP1_glue Wt c 0) $$ [H1 T7]
  · isplitl [H1]
    · iexact H1
    · iexact T7
  ihave T11 := (show srcP X Wt c 11 ⊢ slotP1 Wt c 1 (sh 1) from Entails.rfl) $$ T11
  ihave H18 := (slotP1_glue Wt c 1 1) $$ [H18 T11]
  · isplitl [H18]
    · iexact H18
    · iexact T11
  ihave T9 := (show srcP X Wt c 9 ⊢ slotP1 Wt c 1 (sh 0) from Entails.rfl) $$ T9
  ihave H18 := (slotP1_glue Wt c 1 0) $$ [H18 T9]
  · isplitl [H18]
    · iexact H18
    · iexact T9
  ihave T12 := (show srcP X Wt c 12 ⊢ slotP1 Wt c 3 (sh 0) from Entails.rfl) $$ T12
  ihave H20 := (slotP1_glue Wt c 3 0) $$ [H20 T12]
  · isplitl [H20]
    · iexact H20
    · iexact T12
  ihave T13 := (show srcP X Wt c 13 ⊢ slotP1 Wt c 5 (sh 0) from Entails.rfl) $$ T13
  ihave H22 := (slotP1_glue Wt c 5 0) $$ [H22 T13]
  · isplitl [H22]
    · iexact H22
    · iexact T13
  ihave T17 := (show srcP X Wt c 17 ⊢ colP2 Wt c (sh 2) from Entails.rfl) $$ T17
  ihave H2 := (colP2_glue Wt c 2) $$ [H2 T17]
  · isplitl [H2]
    · iexact H2
    · iexact T17
  ihave T15 := (show srcP X Wt c 15 ⊢ colP2 Wt c (sh 1) from Entails.rfl) $$ T15
  ihave H2 := (colP2_glue Wt c 1) $$ [H2 T15]
  · isplitl [H2]
    · iexact H2
    · iexact T15
  ihave T14 := (show srcP X Wt c 14 ⊢ colP2 Wt c (sh 0) from Entails.rfl) $$ T14
  ihave H2 := (colP2_glue Wt c 0) $$ [H2 T14]
  · isplitl [H2]
    · iexact H2
    · iexact T14
  ihave T18 := (show srcP X Wt c 18 ⊢ slotP2 Wt c 3 (sh 1) from Entails.rfl) $$ T18
  ihave H27 := (slotP2_glue Wt c 3 1) $$ [H27 T18]
  · isplitl [H27]
    · iexact H27
    · iexact T18
  ihave T16 := (show srcP X Wt c 16 ⊢ slotP2 Wt c 3 (sh 0) from Entails.rfl) $$ T16
  ihave H27 := (slotP2_glue Wt c 3 0) $$ [H27 T16]
  · isplitl [H27]
    · iexact H27
    · iexact T16
  ihave T19 := (show srcP X Wt c 19 ⊢ slotP2 Wt c 0 (sh 0) from Entails.rfl) $$ T19
  ihave H24 := (slotP2_glue Wt c 0 0) $$ [H24 T19]
  · isplitl [H24]
    · iexact H24
    · iexact T19
  ihave T20 := (show srcP X Wt c 20 ⊢ slotP2 Wt c 4 (sh 0) from Entails.rfl) $$ T20
  ihave H28 := (slotP2_glue Wt c 4 0) $$ [H28 T20]
  · isplitl [H28]
    · iexact H28
    · iexact T20
  ihave T21 := (show srcP X Wt c 21 ⊢ rowP X c 0 (sh 0) from Entails.rfl) $$ T21
  ihave H3 := (rowP_glue X c 0 0) $$ [H3 T21]
  · isplitl [H3]
    · iexact H3
    · iexact T21
  ihave T22 := (show srcP X Wt c 22 ⊢ rowP X c 2 (sh 0) from Entails.rfl) $$ T22
  ihave H5 := (rowP_glue X c 2 0) $$ [H5 T22]
  · isplitl [H5]
    · iexact H5
    · iexact T22
  ihave T23 := (show srcP X Wt c 23 ⊢ rowP X c 1 (sh 0) from Entails.rfl) $$ T23
  ihave H4 := (rowP_glue X c 1 0) $$ [H4 T23]
  · isplitl [H4]
    · iexact H4
    · iexact T23
  ihave T24 := (show srcP X Wt c 24 ⊢ rowP X c 3 (sh 0) from Entails.rfl) $$ T24
  ihave H6 := (rowP_glue X c 3 0) $$ [H6 T24]
  · isplitl [H6]
    · iexact H6
    · iexact T24
  ihave T25 := (show srcP X Wt c 25 ⊢ rowP X c 4 (sh 0) from Entails.rfl) $$ T25
  ihave H7 := (rowP_glue X c 4 0) $$ [H7 T25]
  · isplitl [H7]
    · iexact H7
    · iexact T25
  ihave T26 := (show srcP X Wt c 26 ⊢ rowP X c 6 (sh 0) from Entails.rfl) $$ T26
  ihave H9 := (rowP_glue X c 6 0) $$ [H9 T26]
  · isplitl [H9]
    · iexact H9
    · iexact T26
  ihave T27 := (show srcP X Wt c 27 ⊢ rowP X c 5 (sh 0) from Entails.rfl) $$ T27
  ihave H8 := (rowP_glue X c 5 0) $$ [H8 T27]
  · isplitl [H8]
    · iexact H8
    · iexact T27
  ihave H10 := (slotP0_free Wt c 0) $$ H10
  ihave H11 := (slotP0_free Wt c 1) $$ H11
  ihave H12 := (slotP0_free Wt c 2) $$ H12
  ihave H13 := (slotP0_free Wt c 3) $$ H13
  ihave H14 := (slotP0_free Wt c 4) $$ H14
  ihave H15 := (slotP0_free Wt c 5) $$ H15
  ihave H16 := (slotP0_free Wt c 6) $$ H16
  ihave H17 := (slotP1_free Wt c 0) $$ H17
  ihave H18 := (slotP1_free Wt c 1) $$ H18
  ihave H19 := (slotP1_free Wt c 2) $$ H19
  ihave H20 := (slotP1_free Wt c 3) $$ H20
  ihave H21 := (slotP1_free Wt c 4) $$ H21
  ihave H22 := (slotP1_free Wt c 5) $$ H22
  ihave H23 := (slotP1_free Wt c 6) $$ H23
  ihave H24 := (slotP2_free Wt c 0) $$ H24
  ihave H25 := (slotP2_free Wt c 1) $$ H25
  ihave H26 := (slotP2_free Wt c 2) $$ H26
  ihave H27 := (slotP2_free Wt c 3) $$ H27
  ihave H28 := (slotP2_free Wt c 4) $$ H28
  ihave H29 := (slotP2_free Wt c 5) $$ H29
  ihave H30 := (slotP2_free Wt c 6) $$ H30
  ihave H31 := (slotP3_free X c 0) $$ H31
  ihave H32 := (slotP3_free X c 1) $$ H32
  ihave H33 := (slotP3_free X c 2) $$ H33
  ihave H34 := (slotP3_free X c 3) $$ H34
  ihave H35 := (slotP3_free X c 4) $$ H35
  ihave H36 := (slotP3_free X c 5) $$ H36
  ihave H37 := (slotP3_free X c 6) $$ H37
  isplitl [H0 H1 H2]
  · isplitl [H0]
    · iexact H0
    isplitl [H1]
    · iexact H1
    iexact H2
  isplitl [OW H3 H4 H5 H6 H7 H8 H9]
  · isplitl [OW]
    · iexact OW
    isplitl [H3]
    · iexact H3
    isplitl [H4]
    · iexact H4
    isplitl [H5]
    · iexact H5
    isplitl [H6]
    · iexact H6
    isplitl [H7]
    · iexact H7
    isplitl [H8]
    · iexact H8
    iexact H9
  isplitl [H10 H11 H12 H13 H14 H15 H16]
  · isplitl [H10]
    · iexact H10
    isplitl [H11]
    · iexact H11
    isplitl [H12]
    · iexact H12
    isplitl [H13]
    · iexact H13
    isplitl [H14]
    · iexact H14
    isplitl [H15]
    · iexact H15
    iexact H16
  isplitl [H17 H18 H19 H20 H21 H22 H23]
  · isplitl [H17]
    · iexact H17
    isplitl [H18]
    · iexact H18
    isplitl [H19]
    · iexact H19
    isplitl [H20]
    · iexact H20
    isplitl [H21]
    · iexact H21
    isplitl [H22]
    · iexact H22
    iexact H23
  isplitl [H24 H25 H26 H27 H28 H29 H30]
  · isplitl [H24]
    · iexact H24
    isplitl [H25]
    · iexact H25
    isplitl [H26]
    · iexact H26
    isplitl [H27]
    · iexact H27
    isplitl [H28]
    · iexact H28
    isplitl [H29]
    · iexact H29
    iexact H30
  · isplitl [H31]
    · iexact H31
    isplitl [H32]
    · iexact H32
    isplitl [H33]
    · iexact H33
    isplitl [H34]
    · iexact H34
    isplitl [H35]
    · iexact H35
    isplitl [H36]
    · iexact H36
    iexact H37

end Cert.KernelIdeal.Pf

end
-- ==== Proof.Ideal.Point.lean ====
/-
  The launch: the pipeline's proof data for the one grid point, the body's obligation, the cells, tokens and credits dealt to the
  devices, and the run: every device's result is the value of the exchange, and every counter is zero again.
-/
module

public import proofs.«01_k».proof.Proof.Ideal.Cuts
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What is staged -/

def Xv (c : Dev nD) : S4096x512.Idx → Elt F .fp8e4m3 := (win0_0.blk t0_0).view.read (Elt F) (m ((c : Thread nD τ).loc main_arg0))
def Wv (c : Dev nD) : S512x8192.Idx → Elt F .fp8e4m3 := (win0_1.blk t0_0).view.read (Elt F) (m ((c : Thread nD τ).loc main_arg1))
def sx (c : Dev nD) : S1.Idx → Elt F .f32 := (win0_2.blk t0_0).view.read (Elt F) (m ((c : Thread nD τ).loc main_arg2))
def sw (c : Dev nD) : S1.Idx → Elt F .f32 := (win0_3.blk t0_0).view.read (Elt F) (m ((c : Thread nD τ).loc main_arg3))
/-- The device's result. -/
def outAt (c : Dev nD) : S512x8192.Idx → Elt F .f32 :=
  ep (fin3 (acc0 (Xv m) (Wv m) c [6, 5, 4, 3, 2, 1, 0]) (acc1 (Xv m) (Wv m) c [6, 4, 2, 0, 5, 3, 1]) (acc2 (Xv m) (Wv m) c [6, 2, 5, 1, 4, 0, 3])) (k0_pay36 (sx m c e1) (sw m c e1)) 8

/-! ## The device's cells, and its own semaphores -/

/-- The barrier cell, the send cells, the receive cells. -/
def cellAt : Unit ⊕ (Fin 28 ⊕ Fin 28) → Fin 57
  | .inl _ => 0 | .inr (.inl i) => ks i | .inr (.inr i) => kr i
def cellsE : Unit ⊕ (Fin 28 ⊕ Fin 28) ≃ Fin 57 := Equiv.ofBijective cellAt (by decide +kernel)

theorem cells_eq (c : Dev nD) (Φ : GSem nD τ sig → sProp 𝕄) : (bigSep Finset.univ fun k : Fin 57 => Φ (kcell (c, k)))
    = iprop(Φ (barCell c) ∗ (bigSep Finset.univ fun i => Φ (sendCell c i)) ∗ bigSep Finset.univ fun i => Φ (recvCell c i)) := by
  rw [bigSep_univ_equiv cellsE, bigSep_univ_sum, bigSep_univ_sum, show (Finset.univ : Finset Unit) = {()} from rfl, bigSep_singleton]
  show iprop(Φ (kcell (c, 0)) ∗ (bigSep Finset.univ fun i => Φ (kcell (c, ks i))) ∗ bigSep Finset.univ fun i => Φ (kcell (c, kr i))) = _
  unfold kcell
  simp only [csem_ks, csem_kr]
  rfl

abbrev osem : Fin 28 ⊕ Fin 28 → SemLoc sig
  | .inl i => .dma (dsend i) | .inr i => .dma (drecv i)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun i => semVal (recvCell c i) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## What a device starts from and ends with -/

/-- The invariants of all cells, and that they are at round 0. -/
def records (K : Dev nD × Fin 57 → ℕ) : sProp 𝕄 :=
  iprop((bigSep Finset.univ fun ck : Dev nD × Fin 57 => cellInv ER (Rd (Xv m) (Wv m)) (K ck) (kcell ck)) ∗ bigSep Finset.univ fun ck : Dev nD × Fin 57 => reached ER (kcell ck) 0)
instance records_persistent (K : Dev nD × Fin 57 → ℕ) : BI.Persistent (records m K) := by unfold records; infer_instance

/-- The positions of the device's cells. -/
def posns (c : Dev nD) : sProp 𝕄 := iprop(atPos ER (barCell c) 0 ∅ 0 ∗ (bigSep Finset.univ fun i => atPos ER (sendCell c i) 0 ∅ 0) ∗ bigSep Finset.univ fun i => atPos ER (recvCell c i) 0 ∅ 0)
/-- The tokens of the duties it pays. -/
def payToks (c : Dev nD) : sProp 𝕄 := iprop(barToks c ∗ (bigSep Finset.univ fun i => dutyTok ER (sendCell c i) 0 0) ∗ bigSep Finset.univ fun i => dutyTok ER (recvCell (px (tm i) c) i) 0 0)
def creds (c : Dev nD) : sProp 𝕄 := iprop(cred (tallyAt (barCell c) () 7) ∗ bigSep Finset.univ fun i => cred (tallyAt (recvCell c i) () (amt i)))

def ghost (c : Dev nD) : sProp 𝕄 := iprop(∃ K, records m K ∗ posns c ∗ payToks c)
def start (c : Dev nD) : sProp 𝕄 := iprop(ghost m c ∗ creds c ∗ levAts L lv)
def Φ₀ (c : Dev nD) : sProp 𝕄 := iprop(start m c ∗ scr0 c ∗ scr1 c ∗ scr2 c ∗ scr3 c)
def Φ₁ (c : Dev nD) : sProp 𝕄 := iprop((scr0 c ∗ scr1 c ∗ scr2 c ∗ scr3 c)
  ∗ (bigSep Finset.univ fun i => semVal (sendCell c i) 0) ∗ (bigSep Finset.univ fun i => semVal (recvCell c i) 0) ∗ semVal (barCell c) 0)

def O₀ (c : Dev nD) : CellTallies nD τ sig Unit := owt c ob0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xv m c
    | ⟨1, _⟩ => Wv m c
    | ⟨2, _⟩ => sx m c
    | ⟨3, _⟩ => sw m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The lists as families -/

theorem all_lists : (tr0).toFinset = Finset.univ ∧ (wr0).toFinset = Finset.univ ∧ (dr0).toFinset = Finset.univ ∧ (rz28).toFinset = Finset.univ ∧ (dz28).toFinset = Finset.univ := by decide +kernel

theorem Tk_eq (c : Dev nD) : Tk (F := F) c tr0 = iprop((bigSep Finset.univ fun i => dutyTok ER (sendCell c i) 0 0) ∗ bigSep Finset.univ fun i => dutyTok ER (recvCell (px (tm i) c) i) 0 0) := by
  unfold Tk; rw [lst_eq _ _ (by decide +kernel), all_lists.1, bigSep_sep']
theorem Wr_eq (c : Dev nD) : Wr (F := F) c wr0 = iprop((bigSep Finset.univ fun i => atPos ER (recvCell c i) 0 ∅ 0) ∗ bigSep Finset.univ fun i => cred (tallyAt (recvCell c i) () (amt i))) := by
  unfold Wr; rw [lst_eq _ _ (by decide +kernel), all_lists.2.1, bigSep_sep']
theorem Ps_eq (c : Dev nD) : Ps (F := F) c dr0 = bigSep Finset.univ fun i => atPos ER (sendCell c i) 0 ∅ 0 := by
  unfold Ps; rw [lst_eq _ _ (by decide +kernel), all_lists.2.2.1]
theorem Zr_eq (c : Dev nD) : Zr (F := F) c rz28 = bigSep Finset.univ fun i => semVal (recvCell c i) 0 := by
  unfold Zr; rw [lst_eq _ _ (by decide +kernel), all_lists.2.2.2.1]
theorem Zs_eq (c : Dev nD) : Zs (F := F) c dz28 = bigSep Finset.univ fun i => semVal (sendCell c i) 0 := by
  unfold Zs; rw [lst_eq _ _ (by decide +kernel), all_lists.2.2.2.2]

/-! ## The body's obligation -/

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (Xv m c) ∗ stg c cc0_stg1_0 (Wv m c) ∗ stg c cc0_stg2_0 (sx m c) ∗ stg c cc0_stg3_0 (sw m c) ∗ stg c cc0_stg4_0 (outAt m c))

/-- What is left of the buffers beside their pieces. -/
def rests (c : Dev nD) : sProp 𝕄 := iprop(xRest (Xv m) c ∗ wRest (Wv m) c ∗ sRest0 c ∗ sRest1 c ∗ sRest2 c ∗ sRest3 c)

theorem body_in (K : Dev nD × Fin 57 → ℕ) (c : Dev nD) (g : S512x8192.Idx → Elt F .f32) :
    iprop((records m K ∗ posns c ∗ payToks c) ∗ creds c ∗ levAts L lv ∗ (scr0 c ∗ scr1 c ∗ scr2 c ∗ scr3 c) ∗ ow c ob0
      ∗ ((c : Thread nD τ).loc cc0_stg0_0 ↦{fullShare} Xv m c) ∗ ((c : Thread nD τ).loc cc0_stg1_0 ↦{fullShare} Wv m c)
      ∗ sc2P c (sx m c) ∗ sc3P c (sw m c) ∗ epP c g)
      ⊢ iprop((env (Xv m) (Wv m) K ∗ bodyIn (Xv m) (Wv m) c (rd0 g) (rd1 g) (rd2 g) (sx m c) (sw m c)) ∗ rests m c) := by
  unfold records posns payToks creds bodyIn rests env
  rw [Tk_eq, Wr_eq, Ps_eq]
  iintro ⟨⟨⟨#EI, #ER⟩, ⟨PB, PS, PR⟩, TB, TS, TR⟩, ⟨CB, CRV⟩, #EL, ⟨F0, F1, F2, F3⟩, O, HX, HW, A2, A3, OUT⟩
  ihave F0 := (scr0_cut c) $$ F0
  ihave F1 := (scr1_cut c) $$ F1
  ihave F2 := (scr2_cut c) $$ F2
  ihave F3 := (scr3_cut c) $$ F3
  icases F0 with ⟨F0, G0⟩
  icases F1 with ⟨F1, G1⟩
  icases F2 with ⟨F2, G2⟩
  icases F3 with ⟨F3, G3⟩
  ihave SG := (Bk_intro c) $$ [TB F0 F1 F2 F3]
  · iframe TB F0 F1 F2 F3
  ihave HX := (rows_cut (Xv m) c) $$ HX
  ihave HW := (cols_cut (Wv m) c) $$ HW
  icases HX with ⟨HX, GX⟩
  icases HW with ⟨HW, GW⟩
  unfold rows cols
  icases HX with ⟨OW, R0, R1, R2, R3, R4, R5, R6⟩
  icases HW with ⟨C0, C1, C2⟩
  ihave OUT := (out_intro c g) $$ OUT
  isplitr [GX GW G0 G1 G2 G3]
  · isplitr
    · iframe EI ER EL
    isplitl [SG]
    · iexact SG
    isplitl [O]
    · iexact O
    isplitl [PB]
    · iexact PB
    isplitl [CB]
    · iexact CB
    isplitl [C0]
    · iexact C0
    isplitl [TS TR]
    · iframe TS TR
    isplitr
    · iempintro
    isplitl [C1]
    · iexact C1
    isplitl [C2]
    · iexact C2
    isplitl [R0]
    · iexact R0
    isplitl [R2]
    · iexact R2
    isplitl [R1]
    · iexact R1
    isplitl [R3]
    · iexact R3
    isplitl [R4]
    · iexact R4
    isplitl [R6]
    · iexact R6
    isplitl [R5]
    · iexact R5
    isplitl [OW]
    · iexact OW
    isplitl [OUT]
    · iexact OUT
    isplitl [PR CRV]
    · iframe PR CRV
    isplitr
    · iempintro
    isplitl [A2]
    · iexact A2
    isplitl [A3]
    · iexact A3
    isplitl [PS]
    · iexact PS
    isplitr
    · iempintro
    · iempintro
  · iframe GX GW G0 G1 G2 G3

theorem body_out (c : Dev nD) :
    iprop(bodyOut (Xv m) (Wv m) c (sx m c) (sw m c) ∗ rests m c)
      ⊢ iprop(ow c [] ∗ Φ₁ c ∗ ((c : Thread nD τ).loc cc0_stg0_0 ↦{fullShare} Xv m c) ∗ ((c : Thread nD τ).loc cc0_stg1_0 ↦{fullShare} Wv m c)
      ∗ sc2P c (sx m c) ∗ sc3P c (sw m c) ∗ epP c (outAt m c)) := by
  unfold bodyOut rests Φ₁
  rw [Zr_eq, Zs_eq]
  iintro ⟨⟨-, O, C0, -, -, C1, C2, R0, R2, R1, R3, R4, R6, R5, OW, OUT, -, Z, A2, A3, -, ZS, RT, BV, -, S00, S30, S11, S31, S23, S33, S01, S02, S32, S13, S15, S35, S20, S24, S34, S03, S04, S05, S06, S36, S10, S12, S14, S16, S21, S25, S22, S26⟩, GX, GW, G0, G1, G2, G3⟩
  ihave H := (shares (Xv m) (Wv m) c) $$ [OW C0 C1 C2 R0 R1 R2 R3 R4 R5 R6 S00 S01 S02 S03 S04 S05 S06 S10 S11 S12 S13 S14 S15 S16 S20 S21 S22 S23 S24 S25 S26 S30 S31 S32 S33 S34 S35 S36 RT]
  · isplitl [OW]
    · iexact OW
    isplitr [RT]
    · unfold kept
      isplitl [C0]
      · iexact C0
      isplitl [C1]
      · iexact C1
      isplitl [C2]
      · iexact C2
      isplitl [R0]
      · iexact R0
      isplitl [R1]
      · iexact R1
      isplitl [R2]
      · iexact R2
      isplitl [R3]
      · iexact R3
      isplitl [R4]
      · iexact R4
      isplitl [R5]
      · iexact R5
      isplitl [R6]
      · iexact R6
      isplitl [S00]
      · iexact S00
      isplitl [S01]
      · iexact S01
      isplitl [S02]
      · iexact S02
      isplitl [S03]
      · iexact S03
      isplitl [S04]
      · iexact S04
      isplitl [S05]
      · iexact S05
      isplitl [S06]
      · iexact S06
      isplitl [S10]
      · iexact S10
      isplitl [S11]
      · iexact S11
      isplitl [S12]
      · iexact S12
      isplitl [S13]
      · iexact S13
      isplitl [S14]
      · iexact S14
      isplitl [S15]
      · iexact S15
      isplitl [S16]
      · iexact S16
      isplitl [S20]
      · iexact S20
      isplitl [S21]
      · iexact S21
      isplitl [S22]
      · iexact S22
      isplitl [S23]
      · iexact S23
      isplitl [S24]
      · iexact S24
      isplitl [S25]
      · iexact S25
      isplitl [S26]
      · iexact S26
      isplitl [S30]
      · iexact S30
      isplitl [S31]
      · iexact S31
      isplitl [S32]
      · iexact S32
      isplitl [S33]
      · iexact S33
      isplitl [S34]
      · iexact S34
      isplitl [S35]
      · iexact S35
      iexact S36
    · iexact RT
  icases H with ⟨HW, HX, F0, F1, F2, F3⟩
  ihave HX := (rows_glue (Xv m) c) $$ [HX GX]
  · iframe HX GX
  ihave HW := (cols_glue (Wv m) c) $$ [HW GW]
  · iframe HW GW
  ihave F0 := (scr0_glue c (wfin0 (Wv m) c)) $$ [F0 G0]
  · iframe F0 G0
  ihave F1 := (scr1_glue c (wfin1 (Wv m) c)) $$ [F1 G1]
  · iframe F1 G1
  ihave F2 := (scr2_glue c (wfin2 (Wv m) c)) $$ [F2 G2]
  · iframe F2 G2
  ihave F3 := (scr3_glue c (xfin (Xv m) c)) $$ [F3 G3]
  · iframe F3 G3
  isplitl [O]
  · iexact O
  isplitl [F0 F1 F2 F3 ZS Z BV]
  · iframe F0 F1 F2 F3 ZS Z BV
  isplitl [HX]
  · iexact HX
  isplitl [HW]
  · iexact HW
  isplitl [A2]
  · iexact A2
  isplitl [A3]
  · iexact A3
  iexact OUT

set_option maxRecDepth 100000 in
/-- The body at the one point of the pipeline. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c
    (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  unfold bodyPre Φ₀ start ghost
  iintro ⟨⟨⟨⟨%K, HG⟩, HC, #HL⟩, HS⟩, HO, ⟨%d0, %g0, %h0, HX⟩, ⟨%d1, %g1, %h1, HW⟩, ⟨%d2, %g2, %h2, H2⟩, ⟨%d3, %g3, %h3, H3⟩, ⟨%d4, %g4, %h4, H4⟩⟩
  have e0 : g0 = Xv m c := by rw [h0]; unfold Dat.before; rw [if_pos (fetch0_0 t0_0)]; rfl
  have e1' : g1 = Wv m c := by rw [h1]; unfold Dat.before; rw [if_pos (fetch0_1 t0_0)]; rfl
  have e2 : g2 = sx m c := by rw [h2]; unfold Dat.before; rw [if_pos (fetch0_2 t0_0)]; rfl
  have e3 : g3 = sw m c := by rw [h3]; unfold Dat.before; rw [if_pos (fetch0_3 t0_0)]; rfl
  subst e0 e1' e2 e3
  unfold Dat.owesAt Pipeline.owesWithin
  icases HO with ⟨%W, %hW, HO⟩
  rw [show (dats m ρ 0 c).owed t0_0.castSucc = owt c ob0 from rfl]
  ihave B := (body_in m K c g4) $$ [HG HC HS HO HX HW H2 H3 H4]
  · unfold ow sc2P sc3P epP
    isplitl [HG]
    · iexact HG
    isplitl [HC]
    · iexact HC
    isplitr
    · iexact HL
    isplitl [HS]
    · iexact HS
    isplitl [HO]
    · iexists W; iexact HO
    isplitl [HX]
    · iexact HX
    isplitl [HW]
    · iexact HW
    isplitl [H2]
    · iexact H2
    isplitl [H3]
    · iexact H3
    iexact H4
  icases B with ⟨B, GR⟩
  iapply (body (Xv m) (Wv m) c K) $$ B
  iintro B
  ihave B := (body_out m c) $$ [B GR]
  · iframe B GR
  unfold ow sc2P sc3P epP
  icases B with ⟨⟨%W', HO⟩, HP, HX, HW, H2, H3, H4⟩
  unfold bodyPost Dat.owesAt Pipeline.owesWithin
  rw [show (dats m ρ 0 c).owed t0_0.succ = owt c [] from rfl]
  isplitl [HP]
  · iexact HP
  isplitl [HO]
  · iexists W'
    isplitr
    · ipureintro; exact fun _ _ => Or.inl trivial
    iexact HO
  isplitl [HX]
  · iexists _
    isplitr
    · (ipureintro; rfl)
    iexact HX
  isplitl [HW]
  · iexists _
    isplitr
    · (ipureintro; rfl)
    iexact HW
  isplitl [H2]
  · iexists _
    isplitr
    · (ipureintro; rfl)
    iexact H2
  isplitl [H3]
  · iexists _
    isplitr
    · (ipureintro; rfl)
    iexact H3
  · iexists _
    isplitr
    · (ipureintro; rfl)
    iexact H4

end Cert.KernelIdeal.Pf

end
-- ==== Proof.Ideal.Launch.lean ====
/-
  The launch: cells, tokens and credits dealt to the devices, and the run: every device's result is the value of the exchange,
  the operands are unchanged, and every counter is zero again.
-/
module

public import proofs.«01_k».proof.Proof.Ideal.Point
public import Idealize.ShloMosaic.Lib.Pipeline.CollectiveSegs

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem csem_inj : Function.Injective csem := by decide +kernel
theorem kcell_injective : Function.Injective (kcell : Dev nD × Fin 57 → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_injective⟩

/-- The duties of a device's own cells: the barrier's seven, and one for each send and receive cell. -/
def dutyAt : Fin 7 ⊕ (Fin 28 ⊕ Fin 28) → Fin 57 × Fin 8
  | .inl e => (0, e.succ) | .inr (.inl i) => (ks i, 0) | .inr (.inr i) => (kr i, 0)
theorem dutyAt_inj : Function.Injective dutyAt := by decide +kernel
def tokOf (cj : Dev nD × (Fin 7 ⊕ (Fin 28 ⊕ Fin 28))) : GSem nD τ sig × ℕ × Fin 8 := (kcell (cj.1, (dutyAt cj.2).1), 0, (dutyAt cj.2).2)
theorem tokOf_injective : Function.Injective tokOf := by
  rintro ⟨c, j⟩ ⟨c', j'⟩ h
  have h1 := kcell_injective (congrArg (fun x : GSem nD τ sig × ℕ × Fin 8 => x.1) h)
  have h2 : (dutyAt j).2 = (dutyAt j').2 := congrArg (fun x : GSem nD τ sig × ℕ × Fin 8 => x.2.2) h
  have h3 : j = j' := dutyAt_inj (Prod.ext (congrArg Prod.snd h1) h2)
  rw [show c = c' from congrArg Prod.fst h1, h3]
def allToks : Finset (GSem nD τ sig × ℕ × Fin 8) := Finset.univ.map ⟨tokOf, tokOf_injective⟩

def u₀ : UU := (initOf (Pipeline.cells cfgs cellOf_inj) (Pipeline.launchToks cfgs cellOf_inj), initOf allCells allToks)

/-- The tokens of a device's own cells. -/
def toks (c : Dev nD) : sProp 𝕄 := iprop((bigSep Finset.univ fun e : Fin 7 => dutyTok ER (barCell c) 0 e.succ)
  ∗ (bigSep Finset.univ fun i => dutyTok ER (sendCell c i) 0 0) ∗ bigSep Finset.univ fun i => dutyTok ER (recvCell c i) 0 0)

theorem toks_eq (c : Dev nD) : (bigSep Finset.univ fun j => (dutyTok ER (tokOf (c, j)).1 (tokOf (c, j)).2.1 (tokOf (c, j)).2.2 : sProp 𝕄)) = toks c := by
  rw [bigSep_univ_sum, bigSep_univ_sum]
  show iprop((bigSep Finset.univ fun e : Fin 7 => dutyTok ER (kcell (c, 0)) 0 e.succ)
    ∗ (bigSep Finset.univ fun i => dutyTok ER (kcell (c, ks i)) 0 0) ∗ bigSep Finset.univ fun i => dutyTok ER (kcell (c, kr i)) 0 0) = toks c
  unfold toks kcell
  simp only [csem_ks, csem_kr]
  rfl

def G (c : Dev nD) : sProp 𝕄 :=
  iprop((bigSep Finset.univ fun k : Fin 57 => roundState ER (Rd (Xv m) (Wv m)) (kcell (c, k)) 0)
    ∗ (bigSep Finset.univ fun k : Fin 57 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 57 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro H
  imod (Rounds.fund ER (Rd (Xv m) (Wv m)) allCells allToks) $$ H with ⟨Hst, Hr, Hat, Htok⟩
  imodintro
  ihave Hst := (Entails.of_eq (hX fun g => roundState ER (Rd (Xv m) (Wv m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]
  · iexact Hst
  isplitl [Hat Hr]
  · isplitl [Hat]
    · iexact Hat
    · iexact Hr
  · iexact Htok

/-! ## The tokens dealt to the devices that pay -/

def pxE (e : Fin 8) : Dev nD ≃ Dev nD := ⟨px e, px e, px_px e, px_px e⟩

/-- A family over devices and an index, each index's members moved along its own permutation of the devices. -/
theorem move {ι : Type} [Fintype ι] (s : ι → Dev nD ≃ Dev nD) (Φ : Dev nD → ι → sProp 𝕄) :
    (bigSep Finset.univ fun c => bigSep Finset.univ fun i => Φ c i) = bigSep Finset.univ fun c => bigSep Finset.univ fun i => Φ (s i c) i := by
  have swap (Ψ : Dev nD → ι → sProp 𝕄) : (bigSep Finset.univ fun c => bigSep Finset.univ fun i => Ψ c i) = bigSep Finset.univ fun i => bigSep Finset.univ fun c => Ψ c i := by
    rw [← bigSep_univ_prod (fun x : Dev nD × ι => Ψ x.1 x.2), bigSep_univ_equiv (Equiv.prodComm ι (Dev nD)), bigSep_univ_prod]; rfl
  rw [swap, swap]
  exact bigSep_congr fun i _ => bigSep_univ_equiv (s i) fun c => Φ c i

theorem barToks_eq (c : Dev nD) : (bigSep Finset.univ fun e : Fin 7 => (dutyTok ER (barCell (px e.succ c)) 0 e.succ : sProp 𝕄)) = barToks c := by
  unfold barToks
  rw [show ((Finset.univ : Finset (Fin 8)).erase 0) = Finset.univ.map (Fin.succEmb 7) by decide +kernel, bigSep_map]; rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    move (fun e : Fin 7 => pxE e.succ) (fun c e => (dutyTok ER (barCell c) 0 e.succ : sProp 𝕄)),
    move (fun i : Fin 28 => pxE (tm i)) (fun c i => (dutyTok ER (recvCell c i) 0 0 : sProp 𝕄)),
    ← bigSep_congr (s := Finset.univ) (fun (c : Dev nD) _ => barToks_eq (F := F) c)]
  exact Entails.rfl

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Xv m) (Wv m)) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨⟨HS, HV⟩, HB, Hst, Hat, Htok⟩
  ihave Hv := (Entails.of_eq (cells_eq c fun g => (semVal g 0 : sProp 𝕄)).symm) $$ [HS HV HB]
  · iframe HS HV HB
  imod (show iprop((bigSep Finset.univ fun k : Fin 57 => semVal (kcell (c, k)) 0) ∗ bigSep Finset.univ fun k : Fin 57 => roundState ER (Rd (Xv m) (Wv m)) (kcell (c, k)) 0)
      ⊢ (|={Set.univ}=> bigSep Finset.univ fun k => iprop(∃ κ : ℕ, cellInv ER (Rd (Xv m) (Wv m)) κ (kcell (c, k))) : sProp 𝕄) from by
        rw [← bigSep_sep']
        exact (bigSep_mono fun k _ => (Rounds.body_intro ER (Rd (Xv m) (Wv m)) (kcell (c, k))).trans inv_alloc).trans (bigSep_fupd _ _)) $$ [Hv Hst] with Hinv
  · isplitl [Hv]
    · iexact Hv
    · iexact Hst
  imodintro
  isplitl [Hinv]
  · iexact Hinv
  isplitl [Hat]
  · iexact Hat
  · iexact Htok

theorem ghost_intro (K : Dev nD × Fin 57 → ℕ) (c : Dev nD) : iprop(records m K ∗ (posns c ∗ payToks c)) ⊢ ghost m c := by
  unfold ghost
  iintro ⟨#R, A, B⟩
  iexists K
  isplitr
  · iexact R
  isplitl [A]
  · iexact A
  · iexact B

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posns_eq (c : Dev nD) : (bigSep Finset.univ fun k : Fin 57 => (atPos ER (kcell (c, k)) 0 ∅ 0 : sProp 𝕄)) = posns c := cells_eq c fun g => atPos ER g 0 ∅ 0

theorem regroup :
    (bigSep Finset.univ fun c : Dev nD => iprop((bigSep Finset.univ fun k => iprop(∃ κ : ℕ, cellInv ER (Rd (Xv m) (Wv m)) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Fin 57 => iprop(∃ κ : ℕ, cellInv ER (Rd (Xv m) (Wv m)) κ (kcell ck))),
    bigSep_congr (s := Finset.univ) (fun (c : Dev nD) _ => bigSep_sep' Finset.univ (fun k : Fin 57 => (atPos ER (kcell (c, k)) 0 ∅ 0 : sProp 𝕄)) (fun k => reached ER (kcell (c, k)) 0)),
    bigSep_sep', ← bigSep_univ_prod (fun ck : Dev nD × Fin 57 => (reached ER (kcell ck) 0 : sProp 𝕄)),
    bigSep_congr (s := Finset.univ) (fun (c : Dev nD) _ => posns_eq (F := F) c)]
  iintro ⟨HI, ⟨Hat, #HR⟩, Htok⟩
  ihave HK := (BI.bigSep_exists_pi Finset.univ (fun (ck : Dev nD × Fin 57) (κ : ℕ) => (cellInv ER (Rd (Xv m) (Wv m)) κ (kcell ck) : sProp 𝕄))) $$ HI
  icases HK with ⟨%K, #HI⟩
  ihave Htk := (toks_around (F := F)) $$ Htok
  iapply (with_persistent (R := records m K) fun c _ => ghost_intro m K c)
  isplitr
  · unfold records
    isplitl
    · iexact HI
    · iexact HR
  · rw [bigSep_sep']
    isplitl [Hat]
    · iexact Hat
    · iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem drecv_inj : Function.Injective drecv := by decide +kernel
theorem recv_eq_iff {a b : Dev nD} {i j : Fin 28} : recvCell a i = recvCell b j ↔ a = b ∧ i = j := by
  refine ⟨fun h => ⟨congrArg (fun g : GSem nD τ sig => g.1.1) h, drecv_inj ?_⟩, fun h => by rw [h.1, h.2]⟩
  have := congrArg Prod.snd h
  injection this
theorem recv_ne_bar {a b : Dev nD} {i : Fin 28} : recvCell a i ≠ barCell b := fun h => by cases congrArg Prod.snd h

/-- How many signals of the list are for `c`'s barrier, and how many transfers land in slot `i` of `c`. -/
def cntB (d c : Dev nD) : List Ob → ℕ
  | [] => 0
  | .bar e :: l => cntB d c l + if c = px e d then 1 else 0
  | .tr _ :: l => cntB d c l
def cntR (d c : Dev nD) (i : Fin 28) : List Ob → ℕ
  | [] => 0
  | .bar _ :: l => cntR d c i l
  | .tr j :: l => cntR d c i l + if c = px (tm j) d ∧ i = j then 1 else 0

theorem owt_bar (d c : Dev nD) : ∀ l, owt d l (barCell c) () = cntB d c l
  | [] => rfl
  | .bar e :: l => by
    show owt d l (barCell c) () + tallyAt (barCell (px e d)) () 1 (barCell c) () = _
    rw [owt_bar d c l, tallyAt_apply]
    show cntB d c l + _ = cntB d c l + if c = px e d then 1 else 0
    simp only [bar_eq_iff, and_true]
  | .tr i :: l => by
    show owt d l (barCell c) () + tallyAt (recvCell (px (tm i) d) i) () (amt i) (barCell c) () = _
    rw [owt_bar d c l, tallyAt_apply, if_neg fun h => recv_ne_bar h.1.symm, Nat.add_zero]; rfl
theorem owt_recv (d c : Dev nD) (i : Fin 28) : ∀ l, owt d l (recvCell c i) () = amt i * cntR d c i l
  | [] => (Nat.mul_zero _).symm
  | .bar e :: l => by
    show owt d l (recvCell c i) () + tallyAt (barCell (px e d)) () 1 (recvCell c i) () = _
    rw [owt_recv d c i l, tallyAt_apply, if_neg fun h => recv_ne_bar h.1, Nat.add_zero]; rfl
  | .tr j :: l => by
    show owt d l (recvCell c i) () + tallyAt (recvCell (px (tm j) d) j) () (amt j) (recvCell c i) () = _
    rw [owt_recv d c i l, tallyAt_apply]
    show amt i * cntR d c i l + _ = amt i * (cntR d c i l + if c = px (tm j) d ∧ i = j then 1 else 0)
    simp only [recv_eq_iff, and_true]
    by_cases h : c = px (tm j) d ∧ i = j
    · rw [if_pos h, if_pos h, Nat.mul_add, Nat.mul_one, h.2]
    · rw [if_neg h, if_neg h, Nat.add_zero, Nat.add_zero]

theorem sum_bar : ∀ c : Dev nD, ∑ d : Dev nD, cntB d c ob0 = 7 := by decide +kernel
theorem sum_recv : ∀ (c : Dev nD) (i : Fin 28), ∑ d : Dev nD, cntR d c i ob0 = 1 := by decide +kernel

theorem launch_bar (c : Dev nD) :
    tallyOn (barCell c) (launchCredit (Pipeline.owing O₀) 0 (barCell c)) = (tallyAt (barCell c) () 7 : CellTallies nD τ sig Unit) := by
  unfold tallyAt
  refine congrArg _ (Finsupp.ext fun u => ?_)
  cases u
  unfold O₀
  rw [Pipeline.launchCredit_owing, Finsupp.single_eq_same, Finset.sum_congr rfl fun d _ => owt_bar d c ob0, sum_bar]
theorem launch_recv (c : Dev nD) (i : Fin 28) :
    tallyOn (recvCell c i) (launchCredit (Pipeline.owing O₀) 0 (recvCell c i)) = (tallyAt (recvCell c i) () (amt i) : CellTallies nD τ sig Unit) := by
  unfold tallyAt
  refine congrArg _ (Finsupp.ext fun u => ?_)
  cases u
  unfold O₀
  rw [Pipeline.launchCredit_owing, Finsupp.single_eq_same, Finset.sum_congr rfl fun d _ => owt_recv d c i ob0, ← Finset.mul_sum, sum_recv, Nat.mul_one]

theorem recvSem_inj : Function.Injective (fun i : Fin 28 => (SemLoc.dma (drecv i) : SemLoc sig)) := fun i j h => drecv_inj (by injection h)

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map ⟨fun i : Fin 28 => (SemLoc.dma (drecv i) : SemLoc sig), recvSem_inj⟩) ?_).trans ?_
  · intro x hx
    obtain ⟨i, -, h⟩ := Finset.mem_map.mp hx
    have h' : x = SemLoc.dma (drecv i) := h.symm
    rw [h']
    rw [Finset.mem_erase]
    constructor
    · intro h; cases h
    · exact Finset.mem_univ _
  · rw [bigSep_map]
    exact bigSep_mono fun i _ => Entails.of_eq (congrArg cred (launch_recv c i))

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds_intro (F := F) c) $$ Hcr
  imodintro
  unfold start
  isplitl
  · isplitl [HG]
    · iexact HG
    isplitl [Hc]
    · iexact Hc
    · iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr0 scr1 scr2 scr3
  iintro ⟨Hs, -, Hr⟩
  isplitl [Hs]
  · iexact Hs
  · iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr0 scr1 scr2 scr3
  iintro ⟨Hr, HS, HV, HB⟩
  isplitl [HB]
  · iexact HB
  isplitl [HS HV]
  · isplitl [HS]
    · iexact HS
    · iexact HV
  · iexact Hr

theorem stage_lv : ∀ (w : Fin 5) (s : Fin (spec0 w).nbuf), ∀ o ∈ ob0, (match kind ((spec0 w).sem s) with | some (true, i) => 2 + stp i | _ => 0) < obLv o := by
  intro w s; fin_cases w <;> fin_cases s <;> decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c (.dma (((cfgs 0).win w).sem s)) ob0 (stage_lv w s)
    · exact mayWait c (.dma (((cfgs 0).win w).sem s)) [] (fun o ho => absurd ho List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution of the eight devices ends, each operand and result array at its computed contents, every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP]
      · iexact HP
      · iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Pf

end
-- ==== Proof.Ideal.Run.lean ====
/-
  What the run leaves in each device's arrays, named by the launch memory.
-/
module

public import proofs.«01_k».proof.Proof.Ideal.Launch

@[expose] public section

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Each window is its whole array, so a block read or written at the one point is the array itself. -/

theorem emb0 (j : S4096x512.Idx) : (win0_0.blk t0_0).view.emb j = j := by
  funext a; apply Fin.ext; fin_cases a
  · show 0 * 4096 + 1 * (j 0).val = (j 0).val; omega
  · show 0 * 512 + 1 * (j 1).val = (j 1).val; omega
theorem emb1 (j : S512x8192.Idx) : (win0_1.blk t0_0).view.emb j = j := by
  funext a; apply Fin.ext; fin_cases a
  · show 0 * 512 + 1 * (j 0).val = (j 0).val; omega
  · show 0 * 8192 + 1 * (j 1).val = (j 1).val; omega
theorem emb2 (j : S1.Idx) : (win0_2.blk t0_0).view.emb j = j := by
  funext a; apply Fin.ext; fin_cases a
  show 0 * 1 + 1 * (j 0).val = (j 0).val; omega
theorem emb3 (j : S1.Idx) : (win0_3.blk t0_0).view.emb j = j := by
  funext a; apply Fin.ext; fin_cases a
  show 0 * 1 + 1 * (j 0).val = (j 0).val; omega
theorem emb4 (j : S512x8192.Idx) : (win0_4.blk t0_0).view.emb j = j := by
  funext a; apply Fin.ext; fin_cases a
  · show 0 * 512 + 1 * (j 0).val = (j 0).val; omega
  · show 0 * 8192 + 1 * (j 1).val = (j 1).val; omega

theorem Xv_eq (c : Dev nD) : Xv m c = m ((c : Thread nD τ).loc main_arg0) :=
  funext fun j => congrArg (m ((c : Thread nD τ).loc main_arg0)) (emb0 j)
theorem Wv_eq (c : Dev nD) : Wv m c = m ((c : Thread nD τ).loc main_arg1) :=
  funext fun j => congrArg (m ((c : Thread nD τ).loc main_arg1)) (emb1 j)
theorem sx_eq (c : Dev nD) : sx m c = m ((c : Thread nD τ).loc main_arg2) :=
  funext fun j => congrArg (m ((c : Thread nD τ).loc main_arg2)) (emb2 j)
theorem sw_eq (c : Dev nD) : sw m c = m ((c : Thread nD τ).loc main_arg3) :=
  funext fun j => congrArg (m ((c : Thread nD τ).loc main_arg3)) (emb3 j)

theorem finalA_4 (c : Dev nD) : finalA m ρ c (4 : Fin 5) = outAt m c := by
  unfold finalA
  rw [show cfg0.N = t0_0.val + 1 from by decide +kernel, Dat.arrAt_succ, if_pos (flush0_4 t0_0)]
  funext j
  have h := View.write_emb_of_mem (Val := Elt F) (v := (win0_4.blk t0_0).view) ((dats m ρ 0 c).arrAt (4 : Fin 5) t0_0) (outAt m c) (Finset.mem_univ j)
  rw [emb4 j] at h
  exact h

set_option maxRecDepth 100000 in
/-- The whole run: the operands are unchanged, each device's result is `outAt`, every counter is zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = outAt m c)
    ∧ r.2.sem = fun _ => 0) :=
  (θ_run defs _ _).mono (fun r h => ⟨fun c =>
    ⟨(h.1 c 0).trans ((dats m ρ 0 c).arrAt_in (0 : Fin 5) rfl _), (h.1 c 1).trans ((dats m ρ 0 c).arrAt_in (1 : Fin 5) rfl _),
      (h.1 c 2).trans ((dats m ρ 0 c).arrAt_in (2 : Fin 5) rfl _), (h.1 c 3).trans ((dats m ρ 0 c).arrAt_in (3 : Fin 5) rfl _),
      (h.1 c 4).trans (finalA_4 m ρ c)⟩, h.2⟩) (run_main m ρ)

end Cert.KernelIdeal.Pf

end
-- ==== Proof.RefValue.lean ====
/-
  The value the reference leaves, over the extended reals: `y / (1 + e^(0 - y))` of the scaled product.
-/
module

public import proofs.«01_k».proof.Proof.Gen.UnclippedIdeal.Value
public import Idealize.ShloMosaic.Lib.MatmulPlain
public import Idealize.ShloMosaic.Lib.IdealHost

@[expose] public section

noncomputable section

namespace Cert.UnclippedIdeal.Rf

open Cert.UnclippedIdeal Cert.UnclippedIdeal.Gen Cert.UnclippedIdeal.Value
open Idealize.ShloMosaic Idealize.ShloMosaic.TcCoe Idealize.SL.Sem
open Idealize.ShloMosaic.ValueIdx

section AnyValues
variable {F : FTy → Type} [FloatOps F]

abbrev w0 : S1.Idx := Shape.Idx.first (numel1_S1.symm ▸ Nat.one_pos)

theorem off_zero : (![0, 0] : Fin 2 → Nat) = fun _ => 0 := funext fun a => by fin_cases a <;> rfl

/-- The body stores one block, the whole result, computed from the whole of each operand. -/
theorem out_eq (c : Dev nD) (arg0 : Memref sig .tc .vmem S4096x4096 .fp8e4m3) (h0 : arg0.IsWhole)
    (arg1 : Memref sig .tc .vmem S4096x8192 .fp8e4m3) (h1 : arg1.IsWhole) (arg2 : Memref sig .tc .smem S1 .f32) (h2 : arg2.IsWhole)
    (arg3 : Memref sig .tc .smem S1 .f32) (h3 : arg3.IsWhole) (arg4 : Memref sig .tc .vmem S4096x8192 .f32) (h4 : arg4.IsWhole)
    (x0 : Vec F S4096x4096 .fp8e4m3) (x1 : Vec F S4096x8192 .fp8e4m3) (x2 : Vec F S1 .f32) (x3 : Vec F S1 .f32) :
    out0_A_4 c arg0 h0 arg1 h1 arg2 h2 arg3 h3 arg4 h4 x0 x1 x2 x3 = k0_pay1 x0 x1 (x2 w0) (x3 w0) := by
  unfold out0_A_4
  rw [View.read_writes_junk_eq_canon]
  show View.canon ([⟨Rect.unit ![0, 0] S4096x8192.size inb_S4096x8192_S4096x8192_0_0,
      k0_pay1
        (View.readAt (Elt F) arg0.view (Rect.unit ![0, 0] S4096x4096.size inb_S4096x4096_S4096x4096_0_0).toLoadRect (h0.unread x0))
        (View.readAt (Elt F) arg1.view (Rect.unit ![0, 0] S4096x8192.size inb_S4096x8192_S4096x8192_0_0).toLoadRect (h1.unread x1))
        (View.readAt (Elt F) arg2.view (Rect.unit (s := S1) ![0] S1.size inb_S1_S1_0).toLoadRect (h2.unread x2) _)
        (View.readAt (Elt F) arg3.view (Rect.unit (s := S1) ![0] S1.size inb_S1_S1_0).toLoadRect (h3.unread x3) _)⟩] :
      List (View.Piece (Elt F) S4096x8192 .f32)) = _
  rw [View.canon_unit_zero off_zero, View.readAt_eq_ld, View.readAt_eq_ld, View.readAt_eq_ld, View.readAt_eq_ld,
    h0.read_unread, h1.read_unread, h2.read_unread, h3.read_unread, View.ld_unit_zero off_zero, View.ld_unit_zero off_zero]
  exact congrArg₂ (k0_pay1 x0 x1) (congrArg x2 (funext fun a => by match a with | ⟨0, _⟩ => rfl)) (congrArg x3 (funext fun a => by match a with | ⟨0, _⟩ => rfl))

variable (m : (ℓ : Loc nD τ sig) → Buf (Elt F) ℓ)

theorem emb0 (j : S4096x4096.Idx) : ((cfg0.win 0).blk t0_0).view.emb j = j := by
  funext a; apply Fin.ext; fin_cases a
  · show 0 * 4096 + 1 * (j 0).val = (j 0).val; omega
  · show 0 * 4096 + 1 * (j 1).val = (j 1).val; omega
theorem emb1 (j : S4096x8192.Idx) : ((cfg0.win 1).blk t0_0).view.emb j = j := by
  funext a; apply Fin.ext; fin_cases a
  · show 0 * 4096 + 1 * (j 0).val = (j 0).val; omega
  · show 0 * 8192 + 1 * (j 1).val = (j 1).val; omega
theorem emb2 (j : S1.Idx) : ((cfg0.win 2).blk t0_0).view.emb j = j := by
  funext a; apply Fin.ext; fin_cases a
  show 0 * 1 + 1 * (j 0).val = (j 0).val; omega
theorem emb3 (j : S1.Idx) : ((cfg0.win 3).blk t0_0).view.emb j = j := by
  funext a; apply Fin.ext; fin_cases a
  show 0 * 1 + 1 * (j 0).val = (j 0).val; omega
theorem emb4 (j : S4096x8192.Idx) : ((cfg0.win 4).blk t0_0).view.emb j = j := by
  funext a; apply Fin.ext; fin_cases a
  · show 0 * 4096 + 1 * (j 0).val = (j 0).val; omega
  · show 0 * 8192 + 1 * (j 1).val = (j 1).val; omega

theorem iblk0 (c : Dev nD) : iblk m c 0 t0_0 = m ((c : Thread nD τ).loc main_arg0) :=
  funext fun j => congrArg (m ((c : Thread nD τ).loc main_arg0)) (emb0 j)
theorem iblk1 (c : Dev nD) : iblk m c 1 t0_0 = m ((c : Thread nD τ).loc main_arg1) :=
  funext fun j => congrArg (m ((c : Thread nD τ).loc main_arg1)) (emb1 j)
theorem iblk2 (c : Dev nD) : iblk m c 2 t0_0 = m ((c : Thread nD τ).loc main_arg2) :=
  funext fun j => congrArg (m ((c : Thread nD τ).loc main_arg2)) (emb2 j)
theorem iblk3 (c : Dev nD) : iblk m c 3 t0_0 = m ((c : Thread nD τ).loc main_arg3) :=
  funext fun j => congrArg (m ((c : Thread nD τ).loc main_arg3)) (emb3 j)

/-- The result as one function of the arguments. -/
def whole (c : Dev nD) : Vec F S4096x8192 .f32 :=
  k0_pay1 (m ((c : Thread nD τ).loc main_arg0)) (m ((c : Thread nD τ).loc main_arg1))
    (m ((c : Thread nD τ).loc main_arg2) w0) (m ((c : Thread nD τ).loc main_arg3) w0)

/-- The one block of the result's window is the whole array. -/
theorem read4 (A : S4096x8192.Idx → Elt F .f32) : ((cfg0.win 4).blk t0_0).view.read (Elt F) A = A :=
  funext fun j => congrArg A (emb4 j)
theorem cut4 (A : S4096x8192.Idx → Elt F .f32) : (cfg0.win 4).cut (grid0.coords t0_0) A = A :=
  funext fun j => congrArg A (funext fun a => Fin.ext rfl)

theorem final4 (c : Dev nD) : (dats m 0 c).arrAt 4 cfg0.N = whole m c := by
  have h := (blocks4 m c t0_0 (flush0_4 t0_0)).trans (flushed4_A m c t0_0)
  rw [out_eq, iblk0, iblk1, iblk2, iblk3] at h
  exact (read4 _).symm.trans (h.trans (cut4 _))

end AnyValues

/-! ## Over the extended reals -/

theorem dot_plain : dot_S4096x4096_S4096x8192_S4096x8192_1_0_0_1_n_n = DotDims.plain 4096 4096 8192 := rfl

/-- Every entry of the payload. -/
theorem pay_apply (x : FVec Ideal S4096x4096 .fp8e4m3) (w : FVec Ideal S4096x8192 .fp8e4m3) (a b : EReal) (R : Fin 4096) (n : Fin 8192) :
    k0_pay1 (F := Ideal) x w a b (ix2 R n)
      = Ideal.div ((∑ k : Fin 4096, (x (ix2 R k) : EReal) * w (ix2 k n)) * (a * b))
          (1 + Ideal.exp (0 - (∑ k : Fin 4096, (x (ix2 R k) : EReal) * w (ix2 k n)) * (a * b))) := by
  have hm : matmul dot_S4096x4096_S4096x8192_S4096x8192_1_0_0_1_n_n none x w (constant (F := Ideal) S4096x8192 .f32 0x00000000#32) (ix2 R n)
      = ∑ k : Fin 4096, (x (ix2 R k) : EReal) * w (ix2 k n) := by
    refine (congrFun (congrArg (fun d => FloatOps.matmul d none x w (constant (F := Ideal) S4096x8192 .f32 0x00000000#32)) dot_plain) (ix2 R n)).trans ?_
    refine (Ideal.matmul_plain_apply none x w _ R n).trans ?_
    refine (congrArg (· + _) ?_).trans (zero_add _)
    exact Ideal.ofBits_zero_f32
  rw [← hm]
  have h0 : (FloatOps.ofBits (F := Ideal) .f32 0x00000000#32 : EReal) = 0 := Ideal.ofBits_zero_f32
  have h1 : (FloatOps.ofBits (F := Ideal) .f32 0x3F800000#32 : EReal) = 1 := Ideal.ofBits_one_f32
  rw [← h0, ← h1]
  rfl

end Cert.UnclippedIdeal.Rf

end
-- ==== Proof.Ideal.Value.lean ====
/-
  The value the kernel leaves, over the extended reals: every entry of a device's result is the epilogue of
  the sum, over the eight devices' blocks, of the products of the rows sent to the device with the blocks' columns.
-/
module

public import proofs.«01_k».proof.Proof.Ideal.Run
public import Idealize.ShloMosaic.Lib.MatmulPlain

@[expose] public section

noncomputable section

namespace Cert.KernelIdeal.Pf

open Cert.KernelIdeal Cert.KernelIdeal.Gen

open Idealize.ShloMosaic Idealize.ShloMosaic.TcCoe
open Idealize.ShloMosaic.ValueIdx
open Idealize.SL.Sem

variable (X : Dev nD → S4096x512.Idx → Elt Ideal .fp8e4m3) (Wt : Dev nD → S512x8192.Idx → Elt Ideal .fp8e4m3)
variable (c : Dev nD)

/-- Row `r` of device `c`'s rows. -/
def rowOf (r : Fin 512) : Fin 4096 := ⟨512 * c.val + r.val, by have := r.isLt; have := c.isLt; have h' : nD = 8 := rfl; omega⟩

/-- Device `d`'s share of the entry `(r, n)` of device `c`'s result. -/
def share (r : Fin 512) (n : Fin 8192) (d : Dev nD) : EReal := ∑ k : Fin 512, (X d (ix2 (rowOf c r) k) : EReal) * Wt d (ix2 k n)

/-! ## The values loaded, by coordinates -/

theorem xo_apply (r k : Fin 512) : xo X c (ix2 r k) = X c (ix2 (rowOf c r) k) := by
  have h := k0_off2_eq c
  have h0 : k0_off2 c 0 = 512 * c.val := congrFun h 0
  have h1 : k0_off2 c 1 = 0 := congrFun h 1
  refine congrArg (X c) (funext fun d => Fin.ext ?_)
  fin_cases d
  · show k0_off2 c 0 + 1 * r.val = 512 * c.val + r.val
    omega
  · show k0_off2 c 1 + 1 * k.val = k.val
    omega

theorem xs_apply (j : Fin 7) (r k : Fin 512) : xs X c j (Fin.cons ⟨0, Nat.one_pos⟩ (ix2 r k)) = X (own c j) (ix2 (rowOf c r) k) := by
  have e : xs X c j (Fin.cons ⟨0, Nat.one_pos⟩ (ix2 r k)) = xfin X c (Fin.cons j (ix2 r k)) := by
    refine congrArg (xfin X c) (funext fun d => Fin.ext ?_)
    fin_cases d
    · show j.val + 1 * 0 = j.val; omega
    · show 0 + 1 * r.val = r.val; omega
    · show 0 + 1 * k.val = k.val; omega
  exact e

/-! ## Part 0 -/

/-- Column `n` of part 0. -/
def col0 (n : Fin 2688) : Fin 8192 := ⟨0 + n.val, by have := n.isLt; omega⟩

theorem wo0_apply (k : Fin 512) (n : Fin 2688) : wo0 Wt c (ix2 k n) = Wt c (ix2 k (col0 n)) := by
  refine congrArg (Wt c) (funext fun d => Fin.ext ?_)
  fin_cases d
  · show 0 + 1 * k.val = k.val; omega
  · show 0 + 1 * n.val = 0 + n.val; omega

theorem ws0_apply (j : Fin 7) (k : Fin 512) (n : Fin 2688) :
    ws0 Wt c j (Fin.cons ⟨0, Nat.one_pos⟩ (ix2 k n)) = Wt (own c j) (ix2 k (col0 n)) := by
  have e : ws0 Wt c j (Fin.cons ⟨0, Nat.one_pos⟩ (ix2 k n)) = wfin0 Wt c (Fin.cons j (ix2 k n)) := by
    refine congrArg (wfin0 Wt c) (funext fun d => Fin.ext ?_)
    fin_cases d
    · show j.val + 1 * 0 = j.val; omega
    · show 0 + 1 * k.val = k.val; omega
    · show 0 + 1 * n.val = n.val; omega
  exact e

theorem dot2688 : dot_S512x512_S512x2688_S512x2688_1_0_0_1_n_n = DotDims.plain 512 512 2688 := rfl

/-- A product of two blocks, from zero. -/
theorem mm2688 (a : FVec Ideal S512x512 .fp8e4m3) (b : FVec Ideal S512x2688 .fp8e4m3) (r : Fin 512) (n : Fin 2688) :
    matmul dot_S512x512_S512x2688_S512x2688_1_0_0_1_n_n none a b (constant S512x2688 .f32 0x00000000#32) (ix2 r n)
      = ∑ k : Fin 512, (a (ix2 r k) : EReal) * b (ix2 k n) := by
  refine (congrFun (congrArg (fun d => FloatOps.matmul d none a b (constant (F := Ideal) S512x2688 .f32 0x00000000#32)) dot2688) (ix2 r n)).trans ?_
  refine (Ideal.matmul_plain_apply none a b _ r n).trans ?_
  refine (congrArg (· + _) ?_).trans (zero_add _)
  exact Ideal.ofBits_zero_f32

theorem acc0_nil (r : Fin 512) (n : Fin 2688) : acc0 X Wt c [] (ix2 r n) = share X Wt c r (col0 n) c := by
  show k0_pay2 (xo X c) (wo0 Wt c) (ix2 r n) = _
  unfold k0_pay2 k0_pay1
  simp only [shapeCast_self]
  refine (mm2688 _ _ r n).trans (Finset.sum_congr rfl fun k _ => ?_)
  rw [xo_apply, wo0_apply]

theorem acc0_cons (j : Fin 7) (l : List (Fin 7)) (r : Fin 512) (n : Fin 2688) :
    acc0 X Wt c (j :: l) (ix2 r n) = (acc0 X Wt c l (ix2 r n) + share X Wt c r (col0 n) (own c j) : EReal) := by
  show k0_pay5 (acc0 X Wt c l) (xs X c j) (ws0 Wt c j) (ix2 r n) = _
  unfold k0_pay5
  simp only [shapeCast_self]
  refine congrArg (fun y : EReal => (acc0 X Wt c l (ix2 r n) : EReal) + y) ?_
  refine (mm2688 _ _ r n).trans (Finset.sum_congr rfl fun k _ => ?_)
  refine congrArg₂ (fun a b : EReal => a * b) ?_ ?_
  · exact (shapeCast_dropUnit_apply ![512, 512] (xs X c j) shapeCasts_S1x512x512_S512x512 (ix2 r k)).trans (xs_apply X c j r k)
  · exact (shapeCast_dropUnit_apply ![512, 2688] (ws0 Wt c j) shapeCasts_S1x512x2688_S512x2688 (ix2 k n)).trans (ws0_apply Wt c j k n)

/-! ## Part 1 -/

/-- Column `n` of part 1. -/
def col1 (n : Fin 2688) : Fin 8192 := ⟨2688 + n.val, by have := n.isLt; omega⟩

theorem wo1_apply (k : Fin 512) (n : Fin 2688) : wo1 Wt c (ix2 k n) = Wt c (ix2 k (col1 n)) := by
  refine congrArg (Wt c) (funext fun d => Fin.ext ?_)
  fin_cases d
  · show 0 + 1 * k.val = k.val; omega
  · show 2688 + 1 * n.val = 2688 + n.val; omega

theorem ws1_apply (j : Fin 7) (k : Fin 512) (n : Fin 2688) :
    ws1 Wt c j (Fin.cons ⟨0, Nat.one_pos⟩ (ix2 k n)) = Wt (own c j) (ix2 k (col1 n)) := by
  have e : ws1 Wt c j (Fin.cons ⟨0, Nat.one_pos⟩ (ix2 k n)) = wfin1 Wt c (Fin.cons j (ix2 k n)) := by
    refine congrArg (wfin1 Wt c) (funext fun d => Fin.ext ?_)
    fin_cases d
    · show j.val + 1 * 0 = j.val; omega
    · show 0 + 1 * k.val = k.val; omega
    · show 0 + 1 * n.val = n.val; omega
  exact e

theorem acc1_nil (r : Fin 512) (n : Fin 2688) : acc1 X Wt c [] (ix2 r n) = share X Wt c r (col1 n) c := by
  show k0_pay3 (k0_pay1 (xo X c)) (wo1 Wt c) (ix2 r n) = _
  unfold k0_pay3 k0_pay1
  simp only [shapeCast_self]
  refine (mm2688 _ _ r n).trans (Finset.sum_congr rfl fun k _ => ?_)
  rw [xo_apply, wo1_apply]

theorem acc1_cons (j : Fin 7) (l : List (Fin 7)) (r : Fin 512) (n : Fin 2688) :
    acc1 X Wt c (j :: l) (ix2 r n) = (acc1 X Wt c l (ix2 r n) + share X Wt c r (col1 n) (own c j) : EReal) := by
  show k0_pay6 (acc1 X Wt c l) (xs X c j) (ws1 Wt c j) (ix2 r n) = _
  unfold k0_pay6
  simp only [shapeCast_self]
  refine congrArg (fun y : EReal => (acc1 X Wt c l (ix2 r n) : EReal) + y) ?_
  refine (mm2688 _ _ r n).trans (Finset.sum_congr rfl fun k _ => ?_)
  refine congrArg₂ (fun a b : EReal => a * b) ?_ ?_
  · exact (shapeCast_dropUnit_apply ![512, 512] (xs X c j) shapeCasts_S1x512x512_S512x512 (ix2 r k)).trans (xs_apply X c j r k)
  · exact (shapeCast_dropUnit_apply ![512, 2688] (ws1 Wt c j) shapeCasts_S1x512x2688_S512x2688 (ix2 k n)).trans (ws1_apply Wt c j k n)

/-! ## Part 2 -/

/-- Column `n` of part 2. -/
def col2 (n : Fin 2816) : Fin 8192 := ⟨5376 + n.val, by have := n.isLt; omega⟩

theorem wo2_apply (k : Fin 512) (n : Fin 2816) : wo2 Wt c (ix2 k n) = Wt c (ix2 k (col2 n)) := by
  refine congrArg (Wt c) (funext fun d => Fin.ext ?_)
  fin_cases d
  · show 0 + 1 * k.val = k.val; omega
  · show 5376 + 1 * n.val = 5376 + n.val; omega

theorem ws2_apply (j : Fin 7) (k : Fin 512) (n : Fin 2816) :
    ws2 Wt c j (Fin.cons ⟨0, Nat.one_pos⟩ (ix2 k n)) = Wt (own c j) (ix2 k (col2 n)) := by
  have e : ws2 Wt c j (Fin.cons ⟨0, Nat.one_pos⟩ (ix2 k n)) = wfin2 Wt c (Fin.cons j (ix2 k n)) := by
    refine congrArg (wfin2 Wt c) (funext fun d => Fin.ext ?_)
    fin_cases d
    · show j.val + 1 * 0 = j.val; omega
    · show 0 + 1 * k.val = k.val; omega
    · show 0 + 1 * n.val = n.val; omega
  exact e

theorem dot2816 : dot_S512x512_S512x2816_S512x2816_1_0_0_1_n_n = DotDims.plain 512 512 2816 := rfl

/-- A product of two blocks, from zero. -/
theorem mm2816 (a : FVec Ideal S512x512 .fp8e4m3) (b : FVec Ideal S512x2816 .fp8e4m3) (r : Fin 512) (n : Fin 2816) :
    matmul dot_S512x512_S512x2816_S512x2816_1_0_0_1_n_n none a b (constant S512x2816 .f32 0x00000000#32) (ix2 r n)
      = ∑ k : Fin 512, (a (ix2 r k) : EReal) * b (ix2 k n) := by
  refine (congrFun (congrArg (fun d => FloatOps.matmul d none a b (constant (F := Ideal) S512x2816 .f32 0x00000000#32)) dot2816) (ix2 r n)).trans ?_
  refine (Ideal.matmul_plain_apply none a b _ r n).trans ?_
  refine (congrArg (· + _) ?_).trans (zero_add _)
  exact Ideal.ofBits_zero_f32

theorem acc2_nil (r : Fin 512) (n : Fin 2816) : acc2 X Wt c [] (ix2 r n) = share X Wt c r (col2 n) c := by
  show k0_pay4 (k0_pay1 (xo X c)) (wo2 Wt c) (ix2 r n) = _
  unfold k0_pay4 k0_pay1
  simp only [shapeCast_self]
  refine (mm2816 _ _ r n).trans (Finset.sum_congr rfl fun k _ => ?_)
  rw [xo_apply, wo2_apply]

theorem acc2_cons (j : Fin 7) (l : List (Fin 7)) (r : Fin 512) (n : Fin 2816) :
    acc2 X Wt c (j :: l) (ix2 r n) = (acc2 X Wt c l (ix2 r n) + share X Wt c r (col2 n) (own c j) : EReal) := by
  show k0_pay18 (acc2 X Wt c l) (xs X c j) (ws2 Wt c j) (ix2 r n) = _
  unfold k0_pay18
  simp only [shapeCast_self]
  refine congrArg (fun y : EReal => (acc2 X Wt c l (ix2 r n) : EReal) + y) ?_
  refine (mm2816 _ _ r n).trans (Finset.sum_congr rfl fun k _ => ?_)
  refine congrArg₂ (fun a b : EReal => a * b) ?_ ?_
  · exact (shapeCast_dropUnit_apply ![512, 512] (xs X c j) shapeCasts_S1x512x512_S512x512 (ix2 r k)).trans (xs_apply X c j r k)
  · exact (shapeCast_dropUnit_apply ![512, 2816] (ws2 Wt c j) shapeCasts_S1x512x2816_S512x2816 (ix2 k n)).trans (ws2_apply Wt c j k n)

/-! ## The sum over the devices -/

theorem bij : ∀ c : Dev nD, Function.Injective (fun i : Fin 8 => px (dm i) c) := by decide +kernel

theorem px_zero : ∀ c : Dev nD, px (dm 0) c = c := by decide +kernel

/-- The device's own block and the blocks in its seven slots are the eight devices' blocks. -/
theorem sum_own (f : Dev nD → EReal) :
    ∑ d : Dev nD, f d = f c + (f (own c 0) + f (own c 1) + f (own c 2) + f (own c 3) + f (own c 4) + f (own c 5) + f (own c 6)) := by
  have h := Function.Bijective.sum_comp ((Finite.injective_iff_bijective (α := Fin 8)).1 (bij c)) f
  refine h.symm.trans ?_
  rw [Fin.sum_univ_succ, Fin.sum_univ_seven, px_zero]
  rfl

theorem acc0_all (r : Fin 512) (n : Fin 2688) : acc0 X Wt c [6, 5, 4, 3, 2, 1, 0] (ix2 r n) = ∑ d : Dev nD, share X Wt c r (col0 n) d := by
  rw [sum_own c]
  simp only [acc0_cons, acc0_nil]
  abel

theorem acc1_all (r : Fin 512) (n : Fin 2688) : acc1 X Wt c [6, 4, 2, 0, 5, 3, 1] (ix2 r n) = ∑ d : Dev nD, share X Wt c r (col1 n) d := by
  rw [sum_own c]
  simp only [acc1_cons, acc1_nil]
  abel

theorem acc2_all (r : Fin 512) (n : Fin 2816) : acc2 X Wt c [6, 2, 5, 1, 4, 0, 3] (ix2 r n) = ∑ d : Dev nD, share X Wt c r (col2 n) d := by
  rw [sum_own c]
  simp only [acc2_cons, acc2_nil]
  abel

/-- Every entry of the product. -/
theorem fin3_all (r : Fin 512) (n : Fin 8192) :
    fin3 (acc0 X Wt c [6, 5, 4, 3, 2, 1, 0]) (acc1 X Wt c [6, 4, 2, 0, 5, 3, 1]) (acc2 X Wt c [6, 2, 5, 1, 4, 0, 3]) (ix2 r n)
      = ∑ d : Dev nD, share X Wt c r n d := by
  have hn := n.isLt
  unfold fin3
  split
  · rename_i h
    have h : n.val < 2688 := h
    refine (acc0_all X Wt c r ⟨n.val, h⟩).trans ?_
    rw [show col0 ⟨n.val, h⟩ = n from Fin.ext (Nat.zero_add _)]
  · rename_i h
    have h : ¬ n.val < 2688 := h
    split
    · rename_i h'
      have h' : n.val < 5376 := h'
      refine (acc1_all X Wt c r ⟨n.val - 2688, by omega⟩).trans ?_
      rw [show col1 ⟨n.val - 2688, by omega⟩ = n from Fin.ext (show 2688 + (n.val - 2688) = n.val by omega)]
    · rename_i h'
      have h' : ¬ n.val < 5376 := h'
      refine (acc2_all X Wt c r ⟨n.val - 5376, by omega⟩).trans ?_
      rw [show col2 ⟨n.val - 5376, by omega⟩ = n from Fin.ext (show 5376 + (n.val - 5376) = n.val by omega)]

/-! ## The epilogue -/

/-- `y / (1 + e^(0 - y))`. -/
def silu (y : EReal) : EReal := Ideal.div y (1 + Ideal.exp (0 - y))

theorem one_add_exp_ne (x : EReal) : (1 : EReal) + Ideal.exp x ≠ 0 := by
  induction x using EReal.rec with
  | bot => simp
  | top => simp [EReal.add_top_of_ne_bot (show (1 : EReal) ≠ ⊥ from EReal.coe_ne_bot 1)]
  | coe r =>
    rw [Ideal.exp_coe, ← EReal.coe_one, ← EReal.coe_add]
    have : (0 : ℝ) < 1 + Real.exp r := by positivity
    exact_mod_cast this.ne'

theorem mul_logistic (y : EReal) : y * Ideal.logistic y = silu y := by
  unfold silu Ideal.logistic Ideal.div
  rw [zero_sub, if_neg (one_add_exp_ne _), if_neg (one_add_exp_ne _), one_mul]

theorem sil_eq (s x : EReal) : sil (F := Ideal) s x = silu (x * s) := by
  unfold sil k0_pay44
  simp only [shapeCast_self]
  exact mul_logistic (x * s)

/-- Every entry of the result. -/
theorem outAt_apply (m : (ℓ : Loc nD τ sig) → Buf (Elt Ideal) ℓ) (r : Fin 512) (n : Fin 8192) :
    outAt m c (ix2 r n) = silu ((∑ d : Dev nD, share (Xv m) (Wv m) c r n d) * ((sx m c e1 : EReal) * sw m c e1)) := by
  unfold outAt ep
  have hn := n.isLt
  rw [if_pos (show n.val < 1024 * 8 by omega), fin3_all]
  exact sil_eq _ _

end Cert.KernelIdeal.Pf

end
-- ==== Proof.Same.lean ====
/-
  The kernel's result on each device is its block of rows of the reference's result.
-/
module

public import proofs.«01_k».proof.Proof.RefValue
public import proofs.«01_k».proof.Proof.Ideal.Value
public import Idealize.ShloMosaic.Lib.Layout

@[expose] public section

noncomputable section

namespace Cert.Same

open Idealize.ShloMosaic Idealize.ShloMosaic.TcCoe Idealize.SL.Sem
open Idealize.ShloMosaic.ValueIdx

/-- Index `k` of block `d`, along the contracted axis. -/
def at8 (d : Fin 8) (k : Fin 512) : Fin 4096 := ⟨d.val * 512 + k.val, by have := d.isLt; have := k.isLt; omega⟩

/-- A sum over the whole contracted axis, block by block. -/
theorem sum_blocks (f : Fin 4096 → EReal) : ∑ K : Fin 4096, f K = ∑ d : Fin 8, ∑ k : Fin 512, f (at8 d k) := by
  have h := Equiv.sum_comp (finProdFinEquiv (m := 8) (n := 512)) (fun K : Fin (8 * 512) => f K)
  refine (show ∑ K : Fin 4096, f K = ∑ K : Fin (8 * 512), f K from rfl).trans (h.symm.trans ?_)
  rw [Fintype.sum_prod_type]
  refine Finset.sum_congr rfl fun d _ => Finset.sum_congr rfl fun k _ => congrArg f (Fin.ext ?_)
  show k.val + 512 * d.val = d.val * 512 + k.val
  omega

/-- Every device's result, from operands cut as the claim says. -/
theorem outAt_eq (m : (ℓ : Loc Cert.KernelIdeal.nD Cert.KernelIdeal.τ Cert.KernelIdeal.sig) → Buf (Elt Ideal) ℓ)
    (m' : (ℓ : Loc Cert.UnclippedIdeal.nD Cert.UnclippedIdeal.τ Cert.UnclippedIdeal.sig) → Buf (Elt Ideal) ℓ)
    (h : ∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.UnclippedIdeal.nD).tc : Thread Cert.UnclippedIdeal.nD Cert.UnclippedIdeal.τ).loc Cert.UnclippedIdeal.main_arg1))
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3))
    (c : Dev Cert.KernelIdeal.nD) :
    Cert.KernelIdeal.Pf.outAt m c = Layout.block ⟨2, ![512, 8192]⟩ ⟨2, ![4096, 8192]⟩ 0 8 c (Cert.UnclippedIdeal.Rf.whole m' 0) := by
  funext i
  obtain ⟨r, n, rfl⟩ : ∃ (r : Fin 512) (n : Fin 8192), i = ix2 r n := ⟨i 0, i 1, eq_ix2 i⟩
  have hi : Layout.Tiles.idx (S := ⟨2, ![512, 8192]⟩) (T := ⟨2, ![4096, 8192]⟩) (a := 0) (k := 8) (by decide) c (ix2 r n) = ix2 (Cert.KernelIdeal.Pf.rowOf c r) n := by
    funext b; apply Fin.ext; fin_cases b
    · show c.val * 512 + r.val = 512 * c.val + r.val; omega
    · rfl
  rw [Layout.block_apply, hi, Cert.KernelIdeal.Pf.outAt_apply]
  refine Eq.trans ?_ (Cert.UnclippedIdeal.Rf.pay_apply _ _ _ _ _ _).symm
  have hs : ∑ d : Dev Cert.KernelIdeal.nD, Cert.KernelIdeal.Pf.share (Cert.KernelIdeal.Pf.Xv m) (Cert.KernelIdeal.Pf.Wv m) c r n d
      = ∑ K : Fin 4096, HMul.hMul (α := EReal) (β := EReal) (γ := EReal)
          (m' (((0 : Dev Cert.UnclippedIdeal.nD).tc : Thread Cert.UnclippedIdeal.nD Cert.UnclippedIdeal.τ).loc Cert.UnclippedIdeal.main_arg0) (ix2 (Cert.KernelIdeal.Pf.rowOf c r) K))
          (m' (((0 : Dev Cert.UnclippedIdeal.nD).tc : Thread Cert.UnclippedIdeal.nD Cert.UnclippedIdeal.τ).loc Cert.UnclippedIdeal.main_arg1) (ix2 K n)) := by
    refine Eq.trans ?_ (sum_blocks _).symm
    refine Finset.sum_congr rfl fun d _ => Finset.sum_congr rfl fun k _ => congrArg₂ (fun a b : EReal => a * b) ?_ ?_
    · rw [Cert.KernelIdeal.Pf.Xv_eq, (h d).1, Layout.block_apply]
      refine congrArg (m' _) (funext fun b => Fin.ext ?_)
      fin_cases b
      · rfl
      · rfl
    · rw [Cert.KernelIdeal.Pf.Wv_eq, (h d).2.1, Layout.block_apply]
      refine congrArg (m' _) (funext fun b => Fin.ext ?_)
      fin_cases b
      · rfl
      · rfl
  rw [hs, Cert.KernelIdeal.Pf.sx_eq, Cert.KernelIdeal.Pf.sw_eq, (h c).2.2.1, (h c).2.2.2]
  rfl

end Cert.Same

end
-- ==== Proof.lean ====
/- The claims of the statement, from the run of each program: `Cert.Kernel.Pf.run` (Run.lean) for the kernel, at the machine's
   words and at the extended reals; the value claim also from the reference's run and `Cert.Same.outAt_eq` (Same.lean). -/
module

public import proofs.«01_k».proof.Defs
public import proofs.«01_k».proof.Proof.Run
public import proofs.«01_k».proof.Proof.Ideal.Run
public import proofs.«01_k».proof.Proof.Gen.ReferenceIdeal.Frame
public import proofs.«01_k».proof.Proof.Gen.UnclippedIdeal.Value
public import proofs.«01_k».proof.Proof.Same

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.UnclippedIdeal.Gen.facts,
  fun m ρ _ => (θ_run _ _ _).mono (fun _ h => ⟨fun c => ⟨(h.1 c).1, (h.1 c).2.1, (h.1 c).2.2.1, (h.1 c).2.2.2.1⟩, h.2⟩) (Cert.Kernel.Pf.run m ρ),
  fun m ρ _ => (θ_run _ _ _).mono (fun _ h => ⟨fun c => ⟨(h.1 c).1, (h.1 c).2.1, (h.1 c).2.2.1, (h.1 c).2.2.2.1⟩, h.2⟩) (Cert.KernelIdeal.Pf.run m ρ),
  fun m ρ _ => Cert.ReferenceIdeal.Gen.frame m ρ,
  fun m ρ _ => Cert.UnclippedIdeal.Gen.frame m ρ,
  trivial,
  fun m ρ m' ρ' _ h => ⟨Cert.UnclippedIdeal.Rf.whole m' 0,
    (θ_run _ _ _).mono (fun _ hr c => ⟨(hr.1 c).2.2.2.2.trans (Cert.Same.outAt_eq m m' h c), (hr.1 c).1, (hr.1 c).2.1, (hr.1 c).2.2.1, (hr.1 c).2.2.2.1⟩)
      (Cert.KernelIdeal.Pf.run m ρ),
    (θ_run _ _ _).mono (fun _ hr => ⟨(hr 0).1.trans (Cert.UnclippedIdeal.Rf.final4 m' 0), (hr 0).2⟩) (Cert.UnclippedIdeal.Value.run_blocks m' ρ')⟩⟩

end Cert.Proof

end
